-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tw_above_neg_inf [hPre_tw_above_neg_inf : Cert.Pre_tw_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_tw_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tw_above_neg_inf [hPre_tw_above_neg_inf : Cert.Pre_tw_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tw_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_tw_above_neg_inf [hKernelIdeal : Cert.KernelIdeal.Facts] [hPre_tw_above_neg_inf : Cert.Pre_tw_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tw_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_tw_above_neg_inf [hReferenceIdeal : Cert.ReferenceIdeal.Facts] [hPre_tw_above_neg_inf : Cert.Pre_tw_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tw_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_tw_above_neg_inf [hKernelIdeal : Cert.KernelIdeal.Facts] [hReferenceIdeal : Cert.ReferenceIdeal.Facts] [hPre_tw_above_neg_inf : Cert.Pre_tw_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tw_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v26_0)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_tw_above_neg_inf : Cert.Pre_tw_above_neg_inf.Facts),
    quiescent_Kernel (hKernel := hKernel)
    ∧ quiescent_KernelIdeal (hKernelIdeal := hKernelIdeal)
    ∧ quiescent_KernelIdeal_pre_tw_above_neg_inf (hKernelIdeal := hKernelIdeal) (hPre_tw_above_neg_inf := hPre_tw_above_neg_inf)
    ∧ quiescent_ReferenceIdeal (hReferenceIdeal := hReferenceIdeal)
    ∧ quiescent_ReferenceIdeal_pre_tw_above_neg_inf (hReferenceIdeal := hReferenceIdeal) (hPre_tw_above_neg_inf := hPre_tw_above_neg_inf)
    ∧ preserves_Kernel_KernelIdeal
    ∧ algebraic_KernelIdeal_ReferenceIdeal_pre_tw_above_neg_inf (hKernelIdeal := hKernelIdeal) (hReferenceIdeal := hReferenceIdeal) (hPre_tw_above_neg_inf := hPre_tw_above_neg_inf)
-- ==== Pre_tw_above_neg_inf.lean ====
abbrev S1024x128 : Shape := ⟨2, ![1024, 128]⟩
abbrev S1024x1 : Shape := ⟨2, ![1024, 1]⟩
abbrev S1024 : Shape := ⟨1, ![1024]⟩
abbrev S100000x128 : Shape := ⟨2, ![100000, 128]⟩
abbrev S100000 : Shape := ⟨1, ![100000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S320x128 : Shape := ⟨2, ![320, 128]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S1024x128 .f32) (main_arg1 : FVec F S1024x1 .f32) (main_arg2 : FVec F S1024x128 .f32) (main_arg3 : FVec F S1024x128 .f32) (main_arg4 : FVec F S1024x128 .f32) (main_arg5 : IVec S1024 32) (main_arg6 : FVec F S100000x128 .f32) (main_arg7 : FVec F S100000x128 .f32) (main_arg8 : FVec F S100000 .f32) (main_arg9 : FVec F S100000 .f32) (main_arg10 : FVec F S1x32 .f32) (main_arg11 : FVec F S32 .f32) (main_arg12 : FVec F S32x64 .f32) (main_arg13 : FVec F S64 .f32) (main_arg14 : FVec F S128x128 .f32) (main_arg15 : FVec F S128 .f32) (main_arg16 : FVec F S128x128 .f32) (main_arg17 : FVec F S128 .f32) (main_arg18 : FVec F S320x128 .f32) (main_arg19 : FVec F S128 .f32) (main_arg20 : FVec F S128x1 .f32) (main_arg21 : FVec F S1 .f32) : IVec S100000 1 :=
  let main_cst : FVec F S_ .f32 := constant S_ .f32 0xFF800000#32
  let main_v0 : FVec F S100000 .f32 := broadcastInDim S100000 ![] bcast_S_S100000 main_cst
  let main_v1 : IVec S100000 1 := cmpf .ogt main_arg9 main_v0
  main_v1
-- ==== Kernel.lean ====
abbrev S1024x128 : Shape := ⟨2, ![1024, 128]⟩
abbrev S1024x1 : Shape := ⟨2, ![1024, 1]⟩
abbrev S1024 : Shape := ⟨1, ![1024]⟩
abbrev S100000x128 : Shape := ⟨2, ![100000, 128]⟩
abbrev S100000 : Shape := ⟨1, ![100000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S320x128 : Shape := ⟨2, ![320, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S50x1x2000 : Shape := ⟨3, ![50, 1, 2000]⟩
abbrev S1024x8 : Shape := ⟨2, ![1024, 8]⟩
abbrev S2000x128 : Shape := ⟨2, ![2000, 128]⟩
abbrev S1x1x2000 : Shape := ⟨3, ![1, 1, 2000]⟩
abbrev S2000 : Shape := ⟨1, ![2000]⟩
abbrev S2000x1 : Shape := ⟨2, ![2000, 1]⟩
abbrev S1024x2000 : Shape := ⟨2, ![1024, 2000]⟩
abbrev S1x2000 : Shape := ⟨2, ![1, 2000]⟩
abbrev S1024x2008 : Shape := ⟨2, ![1024, 2008]⟩
abbrev S1024x8x1 : Shape := ⟨3, ![1024, 8, 1]⟩
abbrev S1024x8x128 : Shape := ⟨3, ![1024, 8, 128]⟩

abbrev nBuf : Space → Nat
  | .hbm => 69
  | .vmem => 24
  | .smem => 0
  | _ => 0

abbrev bufTy : (tb : Table) → Fin (tcTables nBuf tb) → BufTy
  | .hbm, ⟨0, _⟩ => ⟨S1024x128, .f32⟩
  | .hbm, ⟨1, _⟩ => ⟨S1024x1, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024, .i32⟩
  | .hbm, ⟨6, _⟩ => ⟨S100000x128, .f32⟩
  | .hbm, ⟨7, _⟩ => ⟨S100000x128, .f32⟩
  | .hbm, ⟨8, _⟩ => ⟨S100000, .f32⟩
  | .hbm, ⟨9, _⟩ => ⟨S100000, .f32⟩
  | .hbm, ⟨10, _⟩ => ⟨S1x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S320x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S1x128, .f32⟩
  | .hbm, ⟨23, _⟩ => ⟨S1x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S100000x128, .f32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S100000x128, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S_, .f32⟩
  | .hbm, ⟨54, _⟩ => ⟨S1024, .f32⟩
  | .hbm, ⟨55, _⟩ => ⟨S100000, .f32⟩
  | .hbm, ⟨56, _⟩ => ⟨S50x1x2000, .f32⟩
  | .hbm, ⟨57, _⟩ => ⟨S1024x8, .f32⟩
  | .hbm, ⟨58, _⟩ => ⟨S1024x8, .i32⟩
  | .hbm, ⟨59, _⟩ => ⟨S1024x8, .f32⟩
  | .hbm, ⟨60, _⟩ => ⟨S_, .i32⟩
  | .hbm, ⟨61, _⟩ => ⟨S1024x8, .i32⟩
  | .hbm, ⟨62, _⟩ => ⟨S1024x8, .i1⟩
  | .hbm, ⟨63, _⟩ => ⟨S_, .i32⟩
  | .hbm, ⟨64, _⟩ => ⟨S1024x8, .i32⟩
  | .hbm, ⟨65, _⟩ => ⟨S1024x8, .i32⟩
  | .hbm, ⟨66, _⟩ => ⟨S1024x8, .i32⟩
  | .hbm, ⟨67, _⟩ => ⟨S1024x8x1, .i32⟩
  | .hbm, ⟨68, _⟩ => ⟨S1024x8x128, .f32⟩
  | .local _ .vmem, ⟨0, _⟩ => ⟨S1024x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x1x2000, .f32⟩
  | .local _ .vmem, ⟨17, _⟩ => ⟨S1x1x2000, .f32⟩
  | .local _ .vmem, ⟨18, _⟩ => ⟨S1024x8, .f32⟩
  | .local _ .vmem, ⟨19, _⟩ => ⟨S1024x8, .i32⟩
  | .local _ .vmem, ⟨20, _⟩ => ⟨S1024x8, .f32⟩
  | .local _ .vmem, ⟨21, _⟩ => ⟨S1024x8, .f32⟩
  | .local _ .vmem, ⟨22, _⟩ => ⟨S1024x8, .i32⟩
  | .local _ .vmem, ⟨23, _⟩ => ⟨S1024x8, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2_0 : Ref sig .tc := ⟨.hbm, 24, rfl⟩
abbrev main_v2_1 : Ref sig .tc := ⟨.hbm, 25, rfl⟩
abbrev main_v2_2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26_0 : Ref sig .tc := ⟨.hbm, 57, rfl⟩
abbrev main_v26_1 : Ref sig .tc := ⟨.hbm, 58, rfl⟩
abbrev main_v26_2 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v198 : BitVec 1 := Scalar.cmpi .eq arg0 c49_i32
  let v199 : BitVec 32 := Scalar.extui v198
  let c0_i32_77 : BitVec 32 := 0#32
  let v200 : BitVec 1 := Scalar.cmpi .ne v199 c0_i32_77
  v200

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x8 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S1024x128 : Shape := ⟨2, ![1024, 128]⟩
abbrev S1024x1 : Shape := ⟨2, ![1024, 1]⟩
abbrev S1024 : Shape := ⟨1, ![1024]⟩
abbrev S100000x128 : Shape := ⟨2, ![100000, 128]⟩
abbrev S100000 : Shape := ⟨1, ![100000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S128x128 : Shape := ⟨2, ![128, 128]⟩
abbrev S128 : Shape := ⟨1, ![128]⟩
abbrev S320x128 : Shape := ⟨2, ![320, 128]⟩
abbrev S128x1 : Shape := ⟨2, ![128, 1]⟩
abbrev S1 : Shape := ⟨1, ![1]⟩
abbrev S1024x32 : Shape := ⟨2, ![1024, 32]⟩
abbrev S_ : Shape := ⟨0, ![]⟩
abbrev S1024x64 : Shape := ⟨2, ![1024, 64]⟩
abbrev S1x64 : Shape := ⟨2, ![1, 64]⟩
abbrev S1x128 : Shape := ⟨2, ![1, 128]⟩
abbrev S1024x320 : Shape := ⟨2, ![1024, 320]⟩
abbrev S1x1 : Shape := ⟨2, ![1, 1]⟩
abbrev S100000x1 : Shape := ⟨2, ![100000, 1]⟩
abbrev S128x100000 : Shape := ⟨2, ![128, 100000]⟩
abbrev S1024x100000 : Shape := ⟨2, ![1024, 100000]⟩
abbrev S1x100000 : Shape := ⟨2, ![1, 100000]⟩
abbrev S1024x8 : Shape := ⟨2, ![1024, 8]⟩
abbrev S1024x8x1 : Shape := ⟨3, ![1024, 8, 1]⟩
abbrev S1024x8x128 : Shape := ⟨3, ![1024, 8, 128]⟩

abbrev nBuf : Space → Nat
  | .hbm => 181
  | .vmem => 0
  | .smem => 0
  | _ => 0

abbrev hbmTy0_0 (i : Nat) : BufTy := match i % 128 with
  | 0 => ⟨S1024x128, .f32⟩
  | 1 => ⟨S1024x1, .f32⟩
  | 2 => ⟨S1024x128, .f32⟩
  | 3 => ⟨S1024x128, .f32⟩
  | 4 => ⟨S1024x128, .f32⟩
  | 5 => ⟨S1024, .i32⟩
  | 6 => ⟨S100000x128, .f32⟩
  | 7 => ⟨S100000x128, .f32⟩
  | 8 => ⟨S100000, .f32⟩
  | 9 => ⟨S100000, .f32⟩
  | 10 => ⟨S1x32, .f32⟩
  | 11 => ⟨S32, .f32⟩
  | 12 => ⟨S32x64, .f32⟩
  | 13 => ⟨S64, .f32⟩
  | 14 => ⟨S128x128, .f32⟩
  | 15 => ⟨S128, .f32⟩
  | 16 => ⟨S128x128, .f32⟩
  | 17 => ⟨S128, .f32⟩
  | 18 => ⟨S320x128, .f32⟩
  | 19 => ⟨S128, .f32⟩
  | 20 => ⟨S128x1, .f32⟩
  | 21 => ⟨S1, .f32⟩
  | 22 => ⟨S1024x32, .f32⟩
  | 23 => ⟨S1x32, .f32⟩
  | 24 => ⟨S1024x32, .f32⟩
  | 25 => ⟨S1024x32, .f32⟩
  | 26 => ⟨S_, .f32⟩
  | 27 => ⟨S1024x32, .f32⟩
  | 28 => ⟨S1024x32, .f32⟩
  | 29 => ⟨S1024x64, .f32⟩
  | 30 => ⟨S1x64, .f32⟩
  | 31 => ⟨S1024x64, .f32⟩
  | 32 => ⟨S1024x64, .f32⟩
  | 33 => ⟨S1024x64, .f32⟩
  | 34 => ⟨S1024x128, .f32⟩
  | 35 => ⟨S1x128, .f32⟩
  | 36 => ⟨S1024x128, .f32⟩
  | 37 => ⟨S1024x128, .f32⟩
  | 38 => ⟨S_, .f32⟩
  | 39 => ⟨S1024x128, .f32⟩
  | 40 => ⟨S1024x128, .f32⟩
  | 41 => ⟨S1024x128, .f32⟩
  | 42 => ⟨S1x128, .f32⟩
  | 43 => ⟨S1024x128, .f32⟩
  | 44 => ⟨S1024x128, .f32⟩
  | 45 => ⟨S1024x320, .f32⟩
  | 46 => ⟨S1024x128, .f32⟩
  | 47 => ⟨S1x128, .f32⟩
  | 48 => ⟨S1024x128, .f32⟩
  | 49 => ⟨S1024x128, .f32⟩
  | 50 => ⟨S_, .f32⟩
  | 51 => ⟨S1024x128, .f32⟩
  | 52 => ⟨S1024x128, .f32⟩
  | 53 => ⟨S1024x1, .f32⟩
  | 54 => ⟨S1x1, .f32⟩
  | 55 => ⟨S1024x1, .f32⟩
  | 56 => ⟨S1024x1, .f32⟩
  | 57 => ⟨S1024x1, .f32⟩
  | 58 => ⟨S1024x1, .f32⟩
  | 59 => ⟨S_, .f32⟩
  | 60 => ⟨S1024x1, .f32⟩
  | 61 => ⟨S1024x1, .f32⟩
  | 62 => ⟨S_, .f32⟩
  | 63 => ⟨S1024x1, .f32⟩
  | 64 => ⟨S1024x1, .f32⟩
  | 65 => ⟨S1024, .f32⟩
  | 66 => ⟨S_, .i32⟩
  | 67 => ⟨S1024, .i32⟩
  | 68 => ⟨S1024, .i1⟩
  | 69 => ⟨S_, .i32⟩
  | 70 => ⟨S1024, .i32⟩
  | 71 => ⟨S1024, .i32⟩
  | 72 => ⟨S1024, .i32⟩
  | 73 => ⟨S1024x1, .i32⟩
  | 74 => ⟨S100000x128, .f32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S100000x128, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S100000, .f32⟩
  | 93 => ⟨S_, .i32⟩
  | 94 => ⟨S1024, .i32⟩
  | 95 => ⟨S1024, .i1⟩
  | 96 => ⟨S_, .i32⟩
  | 97 => ⟨S1024, .i32⟩
  | 98 => ⟨S1024, .i32⟩
  | 99 => ⟨S1024, .i32⟩
  | 100 => ⟨S1024x1, .i32⟩
  | 101 => ⟨S_, .f32⟩
  | 102 => ⟨S1024, .f32⟩
  | 103 => ⟨S100000, .f32⟩
  | 104 => ⟨S1024x128, .f32⟩
  | 105 => ⟨S_, .f32⟩
  | 106 => ⟨S1024, .f32⟩
  | 107 => ⟨S1024x1, .f32⟩
  | 108 => ⟨S1024x1, .f32⟩
  | 109 => ⟨S_, .f32⟩
  | 110 => ⟨S1024x1, .f32⟩
  | 111 => ⟨S1024x1, .f32⟩
  | 112 => ⟨S1024x128, .f32⟩
  | 113 => ⟨S1024x128, .f32⟩
  | 114 => ⟨S100000x128, .f32⟩
  | 115 => ⟨S_, .f32⟩
  | 116 => ⟨S100000, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S128x100000, .f32⟩
  | 125 => ⟨S1024x100000, .f32⟩
  | 126 => ⟨S1024x128, .f32⟩
  | 127 => ⟨S_, .f32⟩
  | _ => ⟨S1024x128, .f32⟩

abbrev hbmTy0_1 (i : Nat) : BufTy := match i % 128 with
  | 0 => ⟨S1024, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S1024x128, .f32⟩
  | 7 => ⟨S1024x128, .f32⟩
  | 8 => ⟨S100000x128, .f32⟩
  | 9 => ⟨S_, .f32⟩
  | 10 => ⟨S100000, .f32⟩
  | 11 => ⟨S100000x1, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S128x100000, .f32⟩
  | 19 => ⟨S1024x100000, .f32⟩
  | 20 => ⟨S_, .f32⟩
  | 21 => ⟨S1024x100000, .f32⟩
  | 22 => ⟨S1024x100000, .f32⟩
  | 23 => ⟨S_, .f32⟩
  | 24 => ⟨S1024x100000, .f32⟩
  | 25 => ⟨S1024x100000, .f32⟩
  | 26 => ⟨S1024x100000, .f32⟩
  | 27 => ⟨S1x100000, .f32⟩
  | 28 => ⟨S_, .f32⟩
  | 29 => ⟨S1x100000, .f32⟩
  | 30 => ⟨S1x100000, .f32⟩
  | 31 => ⟨S1024x100000, .f32⟩
  | 32 => ⟨S1024x100000, .f32⟩
  | 33 => ⟨S1024x8, .f32⟩
  | 34 => ⟨S1024x8, .i32⟩
  | 35 => ⟨S_, .i32⟩
  | 36 => ⟨S1024x8, .i32⟩
  | 37 => ⟨S1024x8, .i1⟩
  | 38 => ⟨S_, .i32⟩
  | 39 => ⟨S1024x8, .i32⟩
  | 40 => ⟨S1024x8, .i32⟩
  | 41 => ⟨S1024x8, .i32⟩
  | 42 => ⟨S1024x8x1, .i32⟩
  | 43 => ⟨S1024x8x128, .f32⟩
  | 44 => ⟨S_, .i32⟩
  | 45 => ⟨S1024x8, .i32⟩
  | 46 => ⟨S1024x8, .i1⟩
  | 47 => ⟨S_, .i32⟩
  | 48 => ⟨S1024x8, .i32⟩
  | 49 => ⟨S1024x8, .i32⟩
  | 50 => ⟨S1024x8, .i32⟩
  | 51 => ⟨S1024x8x1, .i32⟩
  | 52 => ⟨S1024x8, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_cst : Ref sig .tc := ⟨.hbm, 38, rfl⟩
abbrev main_call1_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call2_cst : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst : Ref sig .tc := ⟨.hbm, 59, rfl⟩
abbrev main_v31 : Ref sig .tc := ⟨.hbm, 60, rfl⟩
abbrev main_v32 : Ref sig .tc := ⟨.hbm, 61, rfl⟩
abbrev main_cst_0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_v36 : Ref sig .tc := ⟨.hbm, 67, rfl⟩
abbrev main_v37 : Ref sig .tc := ⟨.hbm, 68, rfl⟩
abbrev main_c_1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_2 : Ref sig .tc := ⟨.hbm, 75, rfl⟩
abbrev main_v43 : Ref sig .tc := ⟨.hbm, 76, rfl⟩
abbrev main_v44 : Ref sig .tc := ⟨.hbm, 77, rfl⟩
abbrev main_c_3 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_4 : Ref sig .tc := ⟨.hbm, 84, rfl⟩
abbrev main_v50 : Ref sig .tc := ⟨.hbm, 85, rfl⟩
abbrev main_v51 : Ref sig .tc := ⟨.hbm, 86, rfl⟩
abbrev main_c_5 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_6 : Ref sig .tc := ⟨.hbm, 93, rfl⟩
abbrev main_v57 : Ref sig .tc := ⟨.hbm, 94, rfl⟩
abbrev main_v58 : Ref sig .tc := ⟨.hbm, 95, rfl⟩
abbrev main_c_7 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_8 : Ref sig .tc := ⟨.hbm, 101, rfl⟩
abbrev main_v63 : Ref sig .tc := ⟨.hbm, 102, rfl⟩
abbrev main_v64 : Ref sig .tc := ⟨.hbm, 103, rfl⟩
abbrev main_call3_v0 : Ref sig .tc := ⟨.hbm, 104, rfl⟩
abbrev main_call3_cst : Ref sig .tc := ⟨.hbm, 105, rfl⟩
abbrev main_call3_v1 : Ref sig .tc := ⟨.hbm, 106, rfl⟩
abbrev main_call3_v2 : Ref sig .tc := ⟨.hbm, 107, rfl⟩
abbrev main_v65 : Ref sig .tc := ⟨.hbm, 108, rfl⟩
abbrev main_cst_9 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call4_v0 : Ref sig .tc := ⟨.hbm, 114, rfl⟩
abbrev main_call4_cst : Ref sig .tc := ⟨.hbm, 115, rfl⟩
abbrev main_call4_v1 : Ref sig .tc := ⟨.hbm, 116, rfl⟩
abbrev main_call4_v2 : Ref sig .tc := ⟨.hbm, 117, rfl⟩
abbrev main_v70 : Ref sig .tc := ⟨.hbm, 118, rfl⟩
abbrev main_cst_10 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_call5_v0 : Ref sig .tc := ⟨.hbm, 126, rfl⟩
abbrev main_call5_cst : Ref sig .tc := ⟨.hbm, 127, rfl⟩
abbrev main_call5_v1 : Ref sig .tc := ⟨.hbm, 128, rfl⟩
abbrev main_call5_v2 : Ref sig .tc := ⟨.hbm, 129, rfl⟩
abbrev main_v77 : Ref sig .tc := ⟨.hbm, 130, rfl⟩
abbrev main_cst_11 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_call6_v0 : Ref sig .tc := ⟨.hbm, 136, rfl⟩
abbrev main_call6_cst : Ref sig .tc := ⟨.hbm, 137, rfl⟩
abbrev main_call6_v1 : Ref sig .tc := ⟨.hbm, 138, rfl⟩
abbrev main_call6_v2 : Ref sig .tc := ⟨.hbm, 139, rfl⟩
abbrev main_v82 : Ref sig .tc := ⟨.hbm, 140, rfl⟩
abbrev main_cst_12 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_13 : Ref sig .tc := ⟨.hbm, 148, rfl⟩
abbrev main_v89 : Ref sig .tc := ⟨.hbm, 149, rfl⟩
abbrev main_v90 : Ref sig .tc := ⟨.hbm, 150, rfl⟩
abbrev main_cst_14 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_15 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_values : Ref sig .tc := ⟨.hbm, 161, rfl⟩
abbrev main_indices : Ref sig .tc := ⟨.hbm, 162, rfl⟩
abbrev main_c_16 : Ref sig .tc := ⟨.hbm, 163, rfl⟩
abbrev main_v99 : Ref sig .tc := ⟨.hbm, 164, rfl⟩
abbrev main_v100 : Ref sig .tc := ⟨.hbm, 165, rfl⟩
abbrev main_c_17 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_c_18 : Ref sig .tc := ⟨.hbm, 172, rfl⟩
abbrev main_v106 : Ref sig .tc := ⟨.hbm, 173, rfl⟩
abbrev main_v107 : Ref sig .tc := ⟨.hbm, 174, rfl⟩
abbrev main_c_19 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩

abbrev nD : Nat := 1
abbrev τ : Topo := Topo.v7x

variable {F : FTy → Type} [FloatOps F]
-- ==== Proof.IRegion0.lean ====
/- The first launch (the context encoder and the two normalised query arrays), at any contents `V` its operands are
   found at: the windows' blocks, what the body leaves in each output's buffer, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # REGION 0 of @main: custom_call 0, `cc0__prep_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- Window 7's staging buffer after the body, from the input windows' blocks: its 1 store as pieces, LAST
    FIRST (Lib/Pipeline/FrameBody.lean `View.canon`; the payloads are the skeleton's). -/
def out0_7 (x0 : Vec F S1024x128 .f32) (x1 : Vec F S128x128 .f32) (x2 : Vec F S1x128 .f32) (x3 : Vec F S128x128 .f32) (x4 : Vec F S1x128 .f32) (x5 : Vec F S1024x128 .f32) (x6 : Vec F S1024x128 .f32) : Vec F S1024x128 .f32 :=
  View.canon [⟨r0_0, k0_pay2 (View.ld x0 r0_0) (View.ld x1 r0_1) (View.ld x2 r0_2) (View.ld x3 r0_1) (View.ld x4 r0_2)⟩]

/-- Its stores tile the buffer (checked by evaluation), so they cover it. -/
theorem cover0_7 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

/-- Window 8's staging buffer after the body, from the input windows' blocks: its 1 store as pieces, LAST
    FIRST (Lib/Pipeline/FrameBody.lean `View.canon`; the payloads are the skeleton's). -/
def out0_8 (x0 : Vec F S1024x128 .f32) (x1 : Vec F S128x128 .f32) (x2 : Vec F S1x128 .f32) (x3 : Vec F S128x128 .f32) (x4 : Vec F S1x128 .f32) (x5 : Vec F S1024x128 .f32) (x6 : Vec F S1024x128 .f32) : Vec F S1024x128 .f32 :=
  View.canon [⟨r0_0, k0_pay3 (View.ld x5 r0_0)⟩]

/-- Its stores tile the buffer (checked by evaluation), so they cover it. -/
theorem cover0_8 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

/-- Window 9's staging buffer after the body, from the input windows' blocks: its 1 store as pieces, LAST
    FIRST (Lib/Pipeline/FrameBody.lean `View.canon`; the payloads are the skeleton's). -/
def out0_9 (x0 : Vec F S1024x128 .f32) (x1 : Vec F S128x128 .f32) (x2 : Vec F S1x128 .f32) (x3 : Vec F S128x128 .f32) (x4 : Vec F S1x128 .f32) (x5 : Vec F S1024x128 .f32) (x6 : Vec F S1024x128 .f32) : Vec F S1024x128 .f32 :=
  View.canon [⟨r0_0, k0_pay1 (View.ld x6 r0_0) (k0_pay4 (View.ld x6 r0_0))⟩]

/-- Its stores tile the buffer (checked by evaluation), so they cover it. -/
theorem cover0_9 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1024x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec F S1024x128 .f32) (x1 : Vec F S128x128 .f32) (x2 : Vec F S1x128 .f32) (x3 : Vec F S128x128 .f32) (x4 : Vec F S1x128 .f32) (x5 : Vec F S1024x128 .f32) (x6 : Vec F S1024x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6) ∗ owns (c : Thread nD τ) arg8 fullShare (out0_8 x0 x1 x2 x3 x4 x5 x6) ∗ owns (c : Thread nD τ) arg9 fullShare (out0_9 x0 x1 x2 x3 x4 x5 x6)) -∗ K ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9) K := by
  simp only [cc0__prep_body_eq_skeleton]; unfold cc0__prep_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Two

end
-- ==== Proof.IRuns.lean ====
/- The second launch (the running top eight), at any contents `V` its operands are found at: the windows' blocks, the
   body's two conditions in closed form, and the body run once per case of them (first point, points between, last point). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # REGION 1 of @main: custom_call 1, `cc1__mega_body` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 50 = 0 :=
  (fun t => by
    have ht : t.val < 50 := Nat.lt_of_lt_of_eq t.isLt N_1
    have e0 : (grid1.coords t 0).val = t.val / 1 % 50 := Pipeline.Grid.coords_val t 0 (by decide) rfl
    simp only [cond1_0, e0]
    word_cmp
   : ∀ t : Fin grid1.N, cond1_0 (grid1.coords t) ↔ t.val % 50 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 50 = 49 :=
  (fun t => by
    have ht : t.val < 50 := Nat.lt_of_lt_of_eq t.isLt N_1
    have e0 : (grid1.coords t 0).val = t.val / 1 % 50 := Pipeline.Grid.coords_val t 0 (by decide) rfl
    simp only [cond1_1, k1_cond2, e0]
    word_cmp
   : ∀ t : Fin grid1.N, cond1_1 (grid1.coords t) ↔ t.val % 50 = 49)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cfg1.idle 5 (grid1.coords t) = false := by decide +kernel
/-- At the points of case A the printed configuration (`Cfg.idle`) calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cfg1.idle 6 (grid1.coords t) = false := by decide +kernel
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel

/-! ## The kernel body on any staging memrefs: a subtype the run finds -/

/-- One staging buffer of output window 5, through which its contents are stated (`View.read_writes_of_cover`: the
    choice does not matter). -/
abbrev VO1_5 : View sig .tc .vmem S1024x8 .f32 := (Memref.whole cc1_stg5_0 : Memref sig .tc .vmem S1024x8 .f32).view
/-- One staging buffer of output window 6, through which its contents are stated (`View.read_writes_of_cover`: the
    choice does not matter). -/
abbrev VO1_6 : View sig .tc .vmem S1024x8 .i32 := (Memref.whole cc1_stg6_0 : Memref sig .tc .vmem S1024x8 .i32).view
/-- One staging buffer of output window 7, through which its contents are stated (`View.read_writes_of_cover`: the
    choice does not matter). -/
abbrev VO1_7 : View sig .tc .vmem S1024x8 .f32 := (Memref.whole cc1_stg7_0 : Memref sig .tc .vmem S1024x8 .f32).view
/-- Each window's current staging memref at point `t`, spelled as the pipeline passes it (`bodyAt1`), and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x8 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x8 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S1024x8 .f32 := Memref.whole cc1_scratch0
abbrev scM1_1 : Memref sig .tc .vmem S1024x8 .i32 := Memref.whole cc1_scratch1
abbrev scM1_2 : Memref sig .tc .vmem S1024x8 .f32 := Memref.whole cc1_scratch2
/-- The scratch `arg9` the kernel carries between points, as a view: what it holds is stated through it. -/
abbrev VS1_0 : View sig .tc .vmem S1024x8 .f32 := scM1_0.view
/-- The scratch `arg10` the kernel carries between points, as a view: what it holds is stated through it. -/
abbrev VS1_1 : View sig .tc .vmem S1024x8 .i32 := scM1_1.view
/-- The scratch `arg11` the kernel carries between points, as a view: what it holds is stated through it. -/
abbrev VS1_2 : View sig .tc .vmem S1024x8 .f32 := scM1_2.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : cond1_0 i) (hc1 : ¬cond1_1 i)
    (x0 : Vec F S1024x128 .f32) (x1 : Vec F S1024x128 .f32) (x2 : Vec F S2000x128 .f32) (x3 : Vec F S2000x128 .f32) (x4 : Vec F S1x1x2000 .f32) :
    Σ' (L5 : List (View.Piece (Elt F) S1024x8 .f32)), Σ' (L6 : List (View.Piece (Elt F) S1024x8 .i32)), Σ' (L7 : List (View.Piece (Elt F) S1024x8 .f32)), Σ' (LS0 : List (View.Piece (Elt F) S1024x8 .f32)), Σ' (LS1 : List (View.Piece (Elt F) S1024x8 .i32)), { LS2 : List (View.Piece (Elt F) S1024x8 .f32) //
      ∀ (xi5 : Vec F S1024x8 .f32) (xi6 : Vec F S1024x8 .i32) (xi7 : Vec F S1024x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mega_body i arg1 harg1 arg2 harg2 arg3 harg3 arg4 harg4 arg5 harg5 arg6 harg6 arg7 harg7 arg8 harg8 arg9 harg9 arg10 harg10 arg11 harg11) K } := by
  refine ⟨[], [], [], ?_, ?_, ?_, fun xi5 xi6 xi7 E K => ?run⟩
  case run =>
    simp only [cc1__mega_body_eq_skeleton]; unfold cc1__mega_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact HS2

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 48: 48 of 50), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : ¬cond1_0 i) (hc1 : ¬cond1_1 i)
    (x0 : Vec F S1024x128 .f32) (x1 : Vec F S1024x128 .f32) (x2 : Vec F S2000x128 .f32) (x3 : Vec F S2000x128 .f32) (x4 : Vec F S1x1x2000 .f32) (xs0 : Vec F S1024x8 .f32) (xs1 : Vec F S1024x8 .i32) (xs2 : Vec F S1024x8 .f32) :
    Σ' (L5 : List (View.Piece (Elt F) S1024x8 .f32)), Σ' (L6 : List (View.Piece (Elt F) S1024x8 .i32)), Σ' (L7 : List (View.Piece (Elt F) S1024x8 .f32)), Σ' (LS0 : List (View.Piece (Elt F) S1024x8 .f32)), Σ' (LS1 : List (View.Piece (Elt F) S1024x8 .i32)), { LS2 : List (View.Piece (Elt F) S1024x8 .f32) //
      ∀ (xi5 : Vec F S1024x8 .f32) (xi6 : Vec F S1024x8 .i32) (xi7 : Vec F S1024x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mega_body i arg1 harg1 arg2 harg2 arg3 harg3 arg4 harg4 arg5 harg5 arg6 harg6 arg7 harg7 arg8 harg8 arg9 harg9 arg10 harg10 arg11 harg11) K } := by
  refine ⟨[], [], [], ?_, ?_, ?_, fun xi5 xi6 xi7 E K => ?run⟩
  case run =>
    simp only [cc1__mega_body_eq_skeleton]; unfold cc1__mega_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact HS2

-- (the run's proof term is large: the definition's epilogue — `abstractNestedProofs` — walks it past the default budget)
set_option maxHeartbeats 1200000 in
/-- What the body's stores leave in each output's staging memref, as pieces (last first) IN CASE C (`scf.if` 0 not taken, `scf.if` 1 taken: points 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : ¬cond1_0 i) (hc1 : cond1_1 i)
    (x0 : Vec F S1024x128 .f32) (x1 : Vec F S1024x128 .f32) (x2 : Vec F S2000x128 .f32) (x3 : Vec F S2000x128 .f32) (x4 : Vec F S1x1x2000 .f32) (xs0 : Vec F S1024x8 .f32) (xs1 : Vec F S1024x8 .i32) (xs2 : Vec F S1024x8 .f32) :
    Σ' (L5 : List (View.Piece (Elt F) S1024x8 .f32)), Σ' (L6 : List (View.Piece (Elt F) S1024x8 .i32)), Σ' (L7 : List (View.Piece (Elt F) S1024x8 .f32)), Σ' (LS0 : List (View.Piece (Elt F) S1024x8 .f32)), Σ' (LS1 : List (View.Piece (Elt F) S1024x8 .i32)), { LS2 : List (View.Piece (Elt F) S1024x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mega_body i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__mega_body_eq_skeleton]; unfold cc1__mega_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Regions

end Cert.KernelIdeal.Two

end
-- ==== Proof.IRegion1.lean ====
/- The second launch's obligation, at any contents `V` its operands are found at: what its three scratch buffers hold
   after each point (each point's body run over what the point before left), the invariant that carries them from point to
   point, the launch's data and the body's obligation. -/
module

public import proofs.«01_k».proof.Proof.IRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## What the scratch holds after each point -/

/-- What the three scratch buffers hold: values, column indices, time weights. -/
abbrev St (F : FTy → Type) [FloatOps F] : Type := Vec F S1024x8 .f32 × Vec F S1024x8 .i32 × Vec F S1024x8 .f32

/-- The body's run at the first point, on the buffers the launch calls it with and the blocks found there. -/
abbrev runA (c : Dev nD) (t : Fin cfg1.N) (h0 : t.val % 50 = 0) (h1 : ¬t.val % 50 = 49) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- The stores of scratch 0 at the first point cover it. -/
theorem scoverA_0 (c : Dev nD) (t : Fin cfg1.N) (h0 : t.val % 50 = 0) (h1 : ¬t.val % 50 = 49) (y : S1024x8.Idx) :
    ∃ pc ∈ (runA V c t h0 h1).2.2.2.1, y ∈ pc.1.set :=
  View.cover_of_tiledL (runA V c t h0 h1).2.2.2.1 S1024x8.size (by sl_kernel_rfl) y
/-- The stores of scratch 1 at the first point cover it. -/
theorem scoverA_1 (c : Dev nD) (t : Fin cfg1.N) (h0 : t.val % 50 = 0) (h1 : ¬t.val % 50 = 49) (y : S1024x8.Idx) :
    ∃ pc ∈ (runA V c t h0 h1).2.2.2.2.1, y ∈ pc.1.set :=
  View.cover_of_tiledL (runA V c t h0 h1).2.2.2.2.1 S1024x8.size (by sl_kernel_rfl) y
/-- The stores of scratch 2 at the first point cover it. -/
theorem scoverA_2 (c : Dev nD) (t : Fin cfg1.N) (h0 : t.val % 50 = 0) (h1 : ¬t.val % 50 = 49) (y : S1024x8.Idx) :
    ∃ pc ∈ (runA V c t h0 h1).2.2.2.2.2.1, y ∈ pc.1.set :=
  View.cover_of_tiledL (runA V c t h0 h1).2.2.2.2.2.1 S1024x8.size (by sl_kernel_rfl) y

/-- What the scratch holds after the body at the first point: its stores read back. -/
def sA (c : Dev nD) (t : Fin cfg1.N) (h0 : t.val % 50 = 0) (h1 : ¬t.val % 50 = 49) : St F :=
  (VS1_0.read (Elt F) (VS1_0.writes (Elt F) VS1_0.junk (runA V c t h0 h1).2.2.2.1),
   VS1_1.read (Elt F) (VS1_1.writes (Elt F) VS1_1.junk (runA V c t h0 h1).2.2.2.2.1),
   VS1_2.read (Elt F) (VS1_2.writes (Elt F) VS1_2.junk (runA V c t h0 h1).2.2.2.2.2.1))

/-- The body's run at a point between, on the buffers the launch calls it with and the blocks found there. -/
abbrev runB (c : Dev nD) (t : Fin cfg1.N) (h0 : ¬t.val % 50 = 0) (h1 : ¬t.val % 50 = 49) (p : St F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2

/-- The stores of scratch 0 at a point between cover it. -/
theorem scoverB_0 (c : Dev nD) (t : Fin cfg1.N) (h0 : ¬t.val % 50 = 0) (h1 : ¬t.val % 50 = 49) (p : St F) (y : S1024x8.Idx) :
    ∃ pc ∈ (runB V c t h0 h1 p).2.2.2.1, y ∈ pc.1.set :=
  View.cover_of_tiledL (runB V c t h0 h1 p).2.2.2.1 S1024x8.size (by sl_kernel_rfl) y
/-- The stores of scratch 1 at a point between cover it. -/
theorem scoverB_1 (c : Dev nD) (t : Fin cfg1.N) (h0 : ¬t.val % 50 = 0) (h1 : ¬t.val % 50 = 49) (p : St F) (y : S1024x8.Idx) :
    ∃ pc ∈ (runB V c t h0 h1 p).2.2.2.2.1, y ∈ pc.1.set :=
  View.cover_of_tiledL (runB V c t h0 h1 p).2.2.2.2.1 S1024x8.size (by sl_kernel_rfl) y
/-- The stores of scratch 2 at a point between cover it. -/
theorem scoverB_2 (c : Dev nD) (t : Fin cfg1.N) (h0 : ¬t.val % 50 = 0) (h1 : ¬t.val % 50 = 49) (p : St F) (y : S1024x8.Idx) :
    ∃ pc ∈ (runB V c t h0 h1 p).2.2.2.2.2.1, y ∈ pc.1.set :=
  View.cover_of_tiledL (runB V c t h0 h1 p).2.2.2.2.2.1 S1024x8.size (by sl_kernel_rfl) y

/-- What the scratch holds after the body at a point between: its stores read back. -/
def sB (c : Dev nD) (t : Fin cfg1.N) (h0 : ¬t.val % 50 = 0) (h1 : ¬t.val % 50 = 49) (p : St F) : St F :=
  (VS1_0.read (Elt F) (VS1_0.writes (Elt F) VS1_0.junk (runB V c t h0 h1 p).2.2.2.1),
   VS1_1.read (Elt F) (VS1_1.writes (Elt F) VS1_1.junk (runB V c t h0 h1 p).2.2.2.2.1),
   VS1_2.read (Elt F) (VS1_2.writes (Elt F) VS1_2.junk (runB V c t h0 h1 p).2.2.2.2.2.1))

/-- The body's run at the last point, on the buffers the launch calls it with and the blocks found there. -/
abbrev runC (c : Dev nD) (t : Fin cfg1.N) (h0 : ¬t.val % 50 = 0) (h1 : t.val % 50 = 49) (p : St F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2

/-- The stores of scratch 0 at the last point cover it. -/
theorem scoverC_0 (c : Dev nD) (t : Fin cfg1.N) (h0 : ¬t.val % 50 = 0) (h1 : t.val % 50 = 49) (p : St F) (y : S1024x8.Idx) :
    ∃ pc ∈ (runC V c t h0 h1 p).2.2.2.1, y ∈ pc.1.set :=
  View.cover_of_tiledL (runC V c t h0 h1 p).2.2.2.1 S1024x8.size (by sl_kernel_rfl) y
/-- The stores of scratch 1 at the last point cover it. -/
theorem scoverC_1 (c : Dev nD) (t : Fin cfg1.N) (h0 : ¬t.val % 50 = 0) (h1 : t.val % 50 = 49) (p : St F) (y : S1024x8.Idx) :
    ∃ pc ∈ (runC V c t h0 h1 p).2.2.2.2.1, y ∈ pc.1.set :=
  View.cover_of_tiledL (runC V c t h0 h1 p).2.2.2.2.1 S1024x8.size (by sl_kernel_rfl) y
/-- The stores of scratch 2 at the last point cover it. -/
theorem scoverC_2 (c : Dev nD) (t : Fin cfg1.N) (h0 : ¬t.val % 50 = 0) (h1 : t.val % 50 = 49) (p : St F) (y : S1024x8.Idx) :
    ∃ pc ∈ (runC V c t h0 h1 p).2.2.2.2.2.1, y ∈ pc.1.set :=
  View.cover_of_tiledL (runC V c t h0 h1 p).2.2.2.2.2.1 S1024x8.size (by sl_kernel_rfl) y

/-- What the scratch holds after the body at the last point: its stores read back. -/
def sC (c : Dev nD) (t : Fin cfg1.N) (h0 : ¬t.val % 50 = 0) (h1 : t.val % 50 = 49) (p : St F) : St F :=
  (VS1_0.read (Elt F) (VS1_0.writes (Elt F) VS1_0.junk (runC V c t h0 h1 p).2.2.2.1),
   VS1_1.read (Elt F) (VS1_1.writes (Elt F) VS1_1.junk (runC V c t h0 h1 p).2.2.2.2.1),
   VS1_2.read (Elt F) (VS1_2.writes (Elt F) VS1_2.junk (runC V c t h0 h1 p).2.2.2.2.2.1))

/-- The stores of output 5 at the last point cover it. -/
theorem coverC_5 (c : Dev nD) (t : Fin cfg1.N) (h0 : ¬t.val % 50 = 0) (h1 : t.val % 50 = 49) (p : St F) (y : S1024x8.Idx) :
    ∃ pc ∈ (runC V c t h0 h1 p).1, y ∈ pc.1.set :=
  View.cover_of_tiledL (runC V c t h0 h1 p).1 S1024x8.size (by sl_kernel_rfl) y
/-- The stores of output 6 at the last point cover it. -/
theorem coverC_6 (c : Dev nD) (t : Fin cfg1.N) (h0 : ¬t.val % 50 = 0) (h1 : t.val % 50 = 49) (p : St F) (y : S1024x8.Idx) :
    ∃ pc ∈ (runC V c t h0 h1 p).2.1, y ∈ pc.1.set :=
  View.cover_of_tiledL (runC V c t h0 h1 p).2.1 S1024x8.size (by sl_kernel_rfl) y
/-- The stores of output 7 at the last point cover it. -/
theorem coverC_7 (c : Dev nD) (t : Fin cfg1.N) (h0 : ¬t.val % 50 = 0) (h1 : t.val % 50 = 49) (p : St F) (y : S1024x8.Idx) :
    ∃ pc ∈ (runC V c t h0 h1 p).2.2.1, y ∈ pc.1.set :=
  View.cover_of_tiledL (runC V c t h0 h1 p).2.2.1 S1024x8.size (by sl_kernel_rfl) y

/-- What the outputs hold after the body at the last point: its stores read back. -/
def oC (c : Dev nD) (t : Fin cfg1.N) (h0 : ¬t.val % 50 = 0) (h1 : t.val % 50 = 49) (p : St F) : St F :=
  (VO1_5.read (Elt F) (VO1_5.writes (Elt F) VO1_5.junk (runC V c t h0 h1 p).1),
   VO1_6.read (Elt F) (VO1_6.writes (Elt F) VO1_6.junk (runC V c t h0 h1 p).2.1),
   VO1_7.read (Elt F) (VO1_7.writes (Elt F) VO1_7.junk (runC V c t h0 h1 p).2.2.1))

/-- What the scratch holds after point `n`: the body's run there over what the point before left. -/
def stAt1 (c : Dev nD) : (n : ℕ) → n < cfg1.N → St F
  | 0, hn => sA V c ⟨0, hn⟩ (Nat.zero_mod _) (fun h => by dsimp only at h; omega)
  | n + 1, hn =>
    if h0 : (n + 1) % 50 = 0 then sA V c ⟨n + 1, hn⟩ h0 (fun h => by dsimp only at h; omega)
    else if h1 : (n + 1) % 50 = 49 then sC V c ⟨n + 1, hn⟩ h0 h1 (stAt1 c n (Nat.lt_of_succ_lt hn))
    else sB V c ⟨n + 1, hn⟩ h0 h1 (stAt1 c n (Nat.lt_of_succ_lt hn))

/-- What the scratch holds after the point before `t`. -/
abbrev stPrev (c : Dev nD) (t : Fin cfg1.N) : St F :=
  stAt1 V c (t.val - 1) (Nat.lt_of_le_of_lt (Nat.sub_le _ _) t.isLt)

/-- After the first point. -/
theorem stAt1_A (c : Dev nD) (t : Fin cfg1.N) (h0 : t.val % 50 = 0) (h1 : ¬t.val % 50 = 49) :
    stAt1 V c t.val t.isLt = sA V c t h0 h1 := by
  obtain ⟨n, hn⟩ := t
  cases n with
  | zero => exact rfl
  | succ n => exact (dif_pos h0).trans rfl

/-- After a point between. -/
theorem stAt1_B (c : Dev nD) (t : Fin cfg1.N) (h0 : ¬t.val % 50 = 0) (h1 : ¬t.val % 50 = 49) :
    stAt1 V c t.val t.isLt = sB V c t h0 h1 (stPrev V c t) := by
  obtain ⟨n, hn⟩ := t
  cases n with
  | zero => exact absurd (Nat.zero_mod _) h0
  | succ n => exact (dif_neg h0).trans ((dif_neg h1).trans rfl)

/-- After the last point. -/
theorem stAt1_C (c : Dev nD) (t : Fin cfg1.N) (h0 : ¬t.val % 50 = 0) (h1 : t.val % 50 = 49) :
    stAt1 V c t.val t.isLt = sC V c t h0 h1 (stPrev V c t) := by
  obtain ⟨n, hn⟩ := t
  cases n with
  | zero => exact absurd (Nat.zero_mod _) h0
  | succ n => exact (dif_neg h0).trans ((dif_pos h1).trans rfl)

/-- What the outputs' buffers hold after point `t`: at the last point what the body stored; before it nothing reads them. -/
def outAt1 (c : Dev nD) (t : Fin cfg1.N) : St F :=
  if h1 : t.val % 50 = 49 then oC V c t (fun h => by omega) h1 (stPrev V c t) else stAt1 V c t.val t.isLt

/-- The outputs' buffers at the last point. -/
theorem outAt1_C (c : Dev nD) (t : Fin cfg1.N) (h0 : ¬t.val % 50 = 0) (h1 : t.val % 50 = 49) :
    outAt1 V c t = oC V c t h0 h1 (stPrev V c t) := dif_pos h1

/-! ## The invariant -/

/-- The first launch's staging buffers, at anything. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f))

/-- What the launch hands the region: the first launch's staging buffers, the scratch at anything, the generator register. -/
theorem PhiA_split (c : Dev nD) : (Pipeline.ΦA spec1 c : sProp 𝕄)
    ⊢ iprop(others c ∗ ((∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq]; unfold others
  iintro ⟨⟨HR0, HR1, HR2, HR3, HR4, HR5, HR6, HR7, HR8, HR9, HS0, HS1, HS2⟩, Hg⟩
  isplitl [HR0 HR1 HR2 HR3 HR4 HR5 HR6 HR7 HR8 HR9]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact HR9
  isplitl [HS0 HS1 HS2]
  · isplitl [HS0]; · iexact HS0
    isplitl [HS1]; · iexact HS1
    iexact HS2
  iexact Hg

/-- … and back. -/
theorem PhiA_join (c : Dev nD) :
    iprop(others c ∗ ((∃ d, owns (c : Thread nD τ) scM1_0 fullShare d) ∗ (∃ d, owns (c : Thread nD τ) scM1_1 fullShare d) ∗ (∃ d, owns (c : Thread nD τ) scM1_2 fullShare d)) ∗ (∃ r, prngReg c r))
      ⊢ (Pipeline.ΦA spec1 c : sProp 𝕄) := by
  rw [PhiA1_eq]; unfold others
  iintro ⟨⟨HR0, HR1, HR2, HR3, HR4, HR5, HR6, HR7, HR8, HR9⟩, ⟨HS0, HS1, HS2⟩, Hg⟩
  isplitl [HR0 HR1 HR2 HR3 HR4 HR5 HR6 HR7 HR8 HR9 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexact HS0
    isplitl [HS1]; · iexact HS1
    iexact HS2
  iexact Hg

/-- The invariant before position `n`: at the start the scratch at anything, afterwards at what the point before left. -/
def PhiS (c : Dev nD) : (n : ℕ) → n ≤ cfg1.N → sProp 𝕄
  | 0, _ => Pipeline.ΦA spec1 c
  | n + 1, hn => iprop(others c ∗ (owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others c ∗ (owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r)) := rfl

theorem PhiS_pos (c : Dev nD) (n : ℕ) (h : n ≤ cfg1.N) (hz : n ≠ 0) :
    PhiS V c n h = iprop(others c ∗ (owns (c : Thread nD τ) scM1_0 fullShare (stAt1 V c (n - 1) (by omega)).1 ∗ owns (c : Thread nD τ) scM1_1 fullShare (stAt1 V c (n - 1) (by omega)).2.1 ∗ owns (c : Thread nD τ) scM1_2 fullShare (stAt1 V c (n - 1) (by omega)).2.2) ∗ (∃ r, prngReg c r)) := by
  cases n with
  | zero => exact absurd rfl hz
  | succ n => rfl

/-! ## The launch's data -/

/-- The arrays as found, each input's buffer at its block, the outputs' at `outAt1`, the invariant above, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outAt1 V c t).1
    | ⟨6, _⟩ => (outAt1 V c t).2.1
    | ⟨7, _⟩ => (outAt1 V c t).2.2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outAt1 V c t).1 := by dsimp only [dat1]
theorem after1_6 (c : Dev nD) (t : Fin cfg1.N) : (dat1 V c).after 6 t = (outAt1 V c t).2.1 := by dsimp only [dat1]
theorem after1_7 (c : Dev nD) (t : Fin cfg1.N) : (dat1 V c).after 7 t = (outAt1 V c t).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-! What each input's buffer holds after the body: its block. -/

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

set_option maxHeartbeats 3200000 in
/-- The body's obligation at the first point. -/
theorem sound_body1_A (c : Dev nD) (t : Fin cfg1.N) (h0 : t.val % 50 = 0) (h1 : ¬t.val % 50 = 49) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [show (dat1 V c).Φ t.succ = PhiS V c (t.val + 1) t.isLt from rfl, PhiS_succ]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
  rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
  have hN : t.val < 50 := lt_of_lt_of_eq t.isLt (show cfg1.N = 50 from N_1)
  rw [PhiS_castSucc V c t, PhiS_zero V c _ _ (show t.val = 0 by omega), stAt1_A V c t h0 h1]
  unfold sA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HX := PhiA_split c $$ HΦ
  icases HX with ⟨HR, ⟨HS0, HS1, HS2⟩, Hg⟩
  iapply ((runA V c t h0 h1).2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HR HS0 HS1 HS2 Hg]
  · isplitl [HR]; · iexact HR
    isplitl [HS0 HS1 HS2]
    · isplitl [HS0]
      · unfold owns; iexists _; isplitr
        swap; · iexact HS0
        ipureintro; exact View.read_writes_of_cover _ _ _ _ _ (scoverA_0 V c t h0 h1)
      isplitl [HS1]
      · unfold owns; iexists _; isplitr
        swap; · iexact HS1
        ipureintro; exact View.read_writes_of_cover _ _ _ _ _ (scoverA_1 V c t h0 h1)
      unfold owns; iexists _; isplitr
      swap; · iexact HS2
      ipureintro; exact View.read_writes_of_cover _ _ _ _ _ (scoverA_2 V c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 3200000 in
/-- The body's obligation at a point between. -/
theorem sound_body1_B (c : Dev nD) (t : Fin cfg1.N) (h0 : ¬t.val % 50 = 0) (h1 : ¬t.val % 50 = 49) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [show (dat1 V c).Φ t.succ = PhiS V c (t.val + 1) t.isLt from rfl, PhiS_succ]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
  rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
  rw [PhiS_castSucc V c t, PhiS_pos V c _ _ (show t.val ≠ 0 by omega), stAt1_B V c t h0 h1]
  unfold sB; dsimp only
  iintro ⟨⟨HR, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB V c t h0 h1 (stPrev V c t)).2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HR HS0 HS1 HS2 Hg]
  · isplitl [HR]; · iexact HR
    isplitl [HS0 HS1 HS2]
    · isplitl [HS0]
      · unfold owns; iexists _; isplitr
        swap; · iexact HS0
        ipureintro; exact View.read_writes_of_cover _ _ _ _ _ (scoverB_0 V c t h0 h1 (stPrev V c t))
      isplitl [HS1]
      · unfold owns; iexists _; isplitr
        swap; · iexact HS1
        ipureintro; exact View.read_writes_of_cover _ _ _ _ _ (scoverB_1 V c t h0 h1 (stPrev V c t))
      unfold owns; iexists _; isplitr
      swap; · iexact HS2
      ipureintro; exact View.read_writes_of_cover _ _ _ _ _ (scoverB_2 V c t h0 h1 (stPrev V c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 3200000 in
/-- The body's obligation at the last point. -/
theorem sound_body1_C (c : Dev nD) (t : Fin cfg1.N) (h0 : ¬t.val % 50 = 0) (h1 : t.val % 50 = 49) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
  rw [show (dat1 V c).leavesExact 6 t = owns (c : Thread nD τ) (ms1_6 t) fullShare ((dat1 V c).after 6 t) from by
      unfold Dat.leavesExact; rw [liveAt1_6_C t (fun h => h0 ((hcond1_0 t).mp h)) ((hcond1_1 t).mpr h1)], after1_6]
  rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
  rw [outAt1_C V c t h0 h1]
  rw [PhiS_castSucc V c t, PhiS_pos V c _ _ (show t.val ≠ 0 by omega), stAt1_C V c t h0 h1]
  unfold sC oC; dsimp only
  iintro ⟨⟨HR, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC V c t h0 h1 (stPrev V c t)).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%es0, HS0⟩, ⟨%es1, HS1⟩, ⟨%es2, HS2⟩⟩
  isplitl [HR HS0 HS1 HS2 Hg]
  · isplitl [HR]; · iexact HR
    isplitl [HS0 HS1 HS2]
    · isplitl [HS0]
      · unfold owns; iexists _; isplitr
        swap; · iexact HS0
        ipureintro; exact View.read_writes_of_cover _ _ _ _ _ (scoverC_0 V c t h0 h1 (stPrev V c t))
      isplitl [HS1]
      · unfold owns; iexists _; isplitr
        swap; · iexact HS1
        ipureintro; exact View.read_writes_of_cover _ _ _ _ _ (scoverC_1 V c t h0 h1 (stPrev V c t))
      unfold owns; iexists _; isplitr
      swap; · iexact HS2
      ipureintro; exact View.read_writes_of_cover _ _ _ _ _ (scoverC_2 V c t h0 h1 (stPrev V c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverC_5 V c t h0 h1 (stPrev V c t))
  isplitl [H6]
  · unfold owns; iexists _; isplitr
    swap; · iexact H6
    ipureintro; exact View.read_writes_of_cover _ _ _ _ _ (coverC_6 V c t h0 h1 (stPrev V c t))
  unfold owns; iexists _; isplitr
  swap; · iexact H7
  ipureintro; exact View.read_writes_of_cover _ _ _ _ _ (coverC_7 V c t h0 h1 (stPrev V c t))

/-- The body's obligation at every point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 50 = 0
  · exact sound_body1_A V c t h0 (by omega)
  · by_cases h1 : t.val % 50 = 49
    · exact sound_body1_C V c t h0 h1
    · exact sound_body1_B V c t h0 h1

/-- The body table's row at point `t` is the body. -/
theorem defs₀_row1 (t : Fin cfg1.N) :
    defs₀ (F := F) .tc cfg1.body (cfg1.bodyArgs t (cfg1.slots t)) = bodyAt1 t := by
  unfold defs₀; rw [Defs.onTc_tc]

/-- The launch's obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the scratch's contents are forgotten. -/
theorem hout1 (c : Dev nD) : (dat1 V c).Φ (Fin.last cfg1.N) ⊢ Pipeline.ΦA spec1 c := by
  have e : ∀ t : Fin (cfg1.N + 1), (dat1 V c).Φ t = PhiS V c t.val (Nat.le_of_lt_succ t.isLt) := fun _ => rfl
  rw [e, PhiS_pos V c _ _ (by rw [Fin.val_last]; have : cfg1.N = 50 := N_1; omega)]
  refine BIBase.Entails.trans ?_ (PhiA_join c)
  iintro ⟨HR, ⟨HS0, HS1, HS2⟩, Hg⟩
  isplitl [HR]; · iexact HR
  isplitl [HS0 HS1 HS2]
  · isplitl [HS0]; · iexists _; iexact HS0
    isplitl [HS1]; · iexists _; iexact HS1
    iexists _; iexact HS2
  iexact Hg

end Regions

end Cert.KernelIdeal.Two

end
-- ==== Proof.ILaunch.lean ====
/- The whole program's run: the buffers' contents at every boundary between its two launches and the host operations around
   them, the launches as segments, and the frame. -/
module

public import proofs.«01_k».proof.Proof.IRegion0
public import proofs.«01_k».proof.Proof.IRegion1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c, main_v3, main_v4, main_c_0, main_v5, main_v6, main_v7, main_v8, main_v9, main_c_1, main_v10, main_v11, main_c_2, main_v12, main_v13, main_v14, main_v15, main_v16, main_c_3, main_v17, main_v18, main_c_4, main_v19, main_v20, main_v21, main_v22, main_cst, main_v23, main_v24, main_v25]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_c_5, main_v27, main_v28, main_c_6, main_v29, main_v30, main_v31, main_v32, main_v33]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)
theorem W5_main_arg20 (c : Dev nD) : W5 m ρ c (Proc.devRef .tc main_arg20) = m ((c : Thread nD τ).loc main_arg20) :=
  W5_args m ρ c main_arg20 (by decide)
theorem W5_main_arg21 (c : Dev nD) : W5 m ρ c (Proc.devRef .tc main_arg21) = m ((c : Thread nD τ).loc main_arg21) :=
  W5_args m ρ c main_arg21 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting; every
    unscoped buffer ends at the last boundary's contents `W5`, and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- A memory that ends at the last boundary's contents holds the argument arrays as launched. -/
theorem args_kept (mem : (ℓ : Loc nD τ sig) → Buf (Elt F) ℓ)
    (h : ∀ c : Dev nD, ∀ b ∈ Pipeline.ucRefs τ sig, mem (((c : Thread nD τ)).1, b) = W5 m ρ c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21) :=
  ⟨(h c _ (mem_uc main_arg0 (by decide))).trans (W5_main_arg0 m ρ c),
   (h c _ (mem_uc main_arg1 (by decide))).trans (W5_main_arg1 m ρ c),
   (h c _ (mem_uc main_arg2 (by decide))).trans (W5_main_arg2 m ρ c),
   (h c _ (mem_uc main_arg3 (by decide))).trans (W5_main_arg3 m ρ c),
   (h c _ (mem_uc main_arg4 (by decide))).trans (W5_main_arg4 m ρ c),
   (h c _ (mem_uc main_arg5 (by decide))).trans (W5_main_arg5 m ρ c),
   (h c _ (mem_uc main_arg6 (by decide))).trans (W5_main_arg6 m ρ c),
   (h c _ (mem_uc main_arg7 (by decide))).trans (W5_main_arg7 m ρ c),
   (h c _ (mem_uc main_arg8 (by decide))).trans (W5_main_arg8 m ρ c),
   (h c _ (mem_uc main_arg9 (by decide))).trans (W5_main_arg9 m ρ c),
   (h c _ (mem_uc main_arg10 (by decide))).trans (W5_main_arg10 m ρ c),
   (h c _ (mem_uc main_arg11 (by decide))).trans (W5_main_arg11 m ρ c),
   (h c _ (mem_uc main_arg12 (by decide))).trans (W5_main_arg12 m ρ c),
   (h c _ (mem_uc main_arg13 (by decide))).trans (W5_main_arg13 m ρ c),
   (h c _ (mem_uc main_arg14 (by decide))).trans (W5_main_arg14 m ρ c),
   (h c _ (mem_uc main_arg15 (by decide))).trans (W5_main_arg15 m ρ c),
   (h c _ (mem_uc main_arg16 (by decide))).trans (W5_main_arg16 m ρ c),
   (h c _ (mem_uc main_arg17 (by decide))).trans (W5_main_arg17 m ρ c),
   (h c _ (mem_uc main_arg18 (by decide))).trans (W5_main_arg18 m ρ c),
   (h c _ (mem_uc main_arg19 (by decide))).trans (W5_main_arg19 m ρ c),
   (h c _ (mem_uc main_arg20 (by decide))).trans (W5_main_arg20 m ρ c),
   (h c _ (mem_uc main_arg21 (by decide))).trans (W5_main_arg21 m ρ c)⟩

/-- THE FRAME: every weakly fair execution of @main terminates, nothing faulting, the argument arrays end as launched and
    every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨args_kept m ρ r.2.mem h.1, h.2⟩) (run m ρ)

end Cert.KernelIdeal.Two

end
-- ==== Proof.IStep.lean ====
module

public import proofs.«01_k».proof.Proof.IRegion1
public import Idealize.ShloMosaic.Lib.Pipeline.Value

set_option backward.isDefEq.respectTransparency.types false

@[expose] public section

set_option maxRecDepth 16384

noncomputable section

/-!
One point of the scoring region as a function: eight rounds of selection over the candidates, and what the body leaves in
the scratch (and, at the last point, in the outputs) is that function of the blocks and of what the scratch held.
-/

namespace Cert.KernelIdeal.Two

open Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI Idealize.SL.Sem

variable {F : FTy → Type} [FloatOps F]

/-- The greatest score of each row. -/
def rMax (v : FVec F S1024x2008 .f32) : FVec F S1024x1 .f32 :=
  shapeCast S1024x1 (multiReduction .maximumf [1] S1024 v 0xFF800000#32 reduces_S1024x2008_S1024 (.inl rfl) rfl) shapeCasts_S1024_S1024x1

/-- Where a row's score is the greatest. -/
def rEq (v : FVec F S1024x2008 .f32) : IVec S1024x2008 1 :=
  cmpf .oeq v (broadcastTo S1024x2008 (rMax v) broadcasts_S1024x1_S1024x2008)

/-- The lowest column word there. -/
def rIdx (v : FVec F S1024x2008 .f32) (ix : IVec S1024x2008 32) : IVec S1024x1 32 :=
  shapeCast S1024x1 (multiReductionI .minsi [1] S1024 (select (rEq v) ix (broadcast S1024x2008 1073741824#32)) 2147483647#32 reduces_S1024x2008_S1024 rfl) shapeCasts_S1024_S1024x1

/-- The one candidate of that score and that column word. -/
def rOne (v : FVec F S1024x2008 .f32) (ix : IVec S1024x2008 32) : IVec S1024x2008 1 :=
  andi (rEq v) (cmpi .eq ix (broadcastTo S1024x2008 (rIdx v ix) broadcasts_S1024x1_S1024x2008))

/-- Its payload. -/
def rPay (v : FVec F S1024x2008 .f32) (ix : IVec S1024x2008 32) (tw : FVec F S1024x2008 .f32) : FVec F S1024x1 .f32 :=
  shapeCast S1024x1 (multiReduction .add [1] S1024 (select (rOne v ix) tw (broadcast S1024x2008 (Scalar.ofBits .f32 0x00000000#32))) 0x00000000#32 reduces_S1024x2008_S1024 (.inl rfl) rfl) shapeCasts_S1024_S1024x1

/-- The scores with that candidate masked. -/
def rNext (ix : IVec S1024x2008 32) (v : FVec F S1024x2008 .f32) : FVec F S1024x2008 .f32 :=
  select (rOne v ix) (broadcast S1024x2008 (Scalar.ofBits .f32 0xFF800000#32)) v

/-- The scores after `r` rounds. -/
def rIter (ix : IVec S1024x2008 32) (v : FVec F S1024x2008 .f32) : ℕ → FVec F S1024x2008 .f32
  | 0 => v
  | r + 1 => rNext ix (rIter ix v r)

/-- Eight columns side by side. -/
def cols {α : Type} (u : ℕ → S1024x1.Idx → α) : S1024x8.Idx → α :=
  shapeCast S1024x8 (concatenate S1024x8 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩] concatenates_S1024x1_S1024x1_S1024x1_S1024x1_S1024x1_S1024x1_S1024x1_S1024x1_S1024x8_d1) shapeCasts_S1024x8_S1024x8

/-- What eight rounds find: scores, column words, payloads. -/
def eight (v : FVec F S1024x2008 .f32) (ix : IVec S1024x2008 32) (tw : FVec F S1024x2008 .f32) : St F :=
  (cols fun r => rMax (rIter ix v r), cols fun r => rIdx (rIter ix v r) ix, cols fun r => rPay (rIter ix v r) ix tw)

/-- The candidates' scores at a point: the running ones, then the tile's. -/
def candV (x0 x1 : Vec F S1024x128 .f32) (x2 x3 : Vec F S2000x128 .f32) (x4 : Vec F S1x1x2000 .f32) (p : St F) : FVec F S1024x2008 .f32 :=
  k1_pay13 (k1_pay11 x4) (k1_pay12 x2 x0 x3 x1) (Scalar.ofBits .f32 0x3E4CCCCD#32) p.1

/-- What the scratch holds before the first tile. -/
def st0 : St F := (k1_pay8, k1_pay9, k1_pay10)

/-- One point: eight rounds over the running entries and the tile. -/
def step (n : BitVec 32) (x0 x1 : Vec F S1024x128 .f32) (x2 x3 : Vec F S2000x128 .f32) (x4 : Vec F S1x1x2000 .f32) (p : St F) : St F :=
  eight (candV x0 x1 x2 x3 x4 p) (k1_pay14 n p.2.1) (k1_pay15 (k1_pay11 x4) p.2.2)

/-- A rectangle's offset spelt as a row of zeros is zero. -/
theorem off2_zero : (![0, 0] : Fin 2 → ℕ) = fun _ => 0 := by funext a; fin_cases a <;> rfl

/-- The same of three axes. -/
theorem off3_zero : (![0, 0, 0] : Fin 3 → ℕ) = fun _ => 0 := by funext a; fin_cases a <;> rfl

/-- What the body leaves in the scratch at the first point. -/
theorem runA_step (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : cond1_0 i) (hc1 : ¬cond1_1 i)
    (x0 : Vec F S1024x128 .f32) (x1 : Vec F S1024x128 .f32) (x2 : Vec F S2000x128 .f32) (x3 : Vec F S2000x128 .f32) (x4 : Vec F S1x1x2000 .f32) :
    (View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4).2.2.2.1, View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4).2.2.2.2.1, View.canon (kernelRun1_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1) = step (BitVec.ofNat 32 (i 0).val) x0 x1 x2 x3 x4 st0 := by
  unfold kernelRun1_A
  dsimp only
  sl_unfold_words
  rw [View.canon_cons_unit_zero (S := S1024x8) off2_zero, View.canon_cons_unit_zero (S := S1024x8) off2_zero, View.canon_cons_unit_zero (S := S1024x8) off2_zero]
  simp only [View.readCov_unit_zero (S := S1024x8) _ off2_zero]
  simp only [View.readAt_eq_ld, harg1.read_unread, harg2.read_unread, harg3.read_unread, harg4.read_unread, harg5.read_unread, harg9.read_unread, harg10.read_unread, harg11.read_unread, View.ld_unit_zero (S := S1024x8) off2_zero, View.ld_unit_zero (S := S1024x128) off2_zero, View.ld_unit_zero (S := S2000x128) off2_zero, View.ld_unit_zero (S := S1x1x2000) off3_zero]
  rfl

/-- What the body leaves in the scratch at a point between. -/
theorem runB_step (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : ¬cond1_0 i) (hc1 : ¬cond1_1 i)
    (x0 : Vec F S1024x128 .f32) (x1 : Vec F S1024x128 .f32) (x2 : Vec F S2000x128 .f32) (x3 : Vec F S2000x128 .f32) (x4 : Vec F S1x1x2000 .f32) (xs0 : Vec F S1024x8 .f32) (xs1 : Vec F S1024x8 .i32) (xs2 : Vec F S1024x8 .f32) :
    (View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, View.canon (kernelRun1_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.2.2.1) = step (BitVec.ofNat 32 (i 0).val) x0 x1 x2 x3 x4 (xs0, xs1, xs2) := by
  unfold kernelRun1_B
  dsimp only
  sl_unfold_words
  rw [View.canon_unit_zero (S := S1024x8) off2_zero, View.canon_unit_zero (S := S1024x8) off2_zero, View.canon_unit_zero (S := S1024x8) off2_zero]
  simp only [View.readAt_eq_ld, harg1.read_unread, harg2.read_unread, harg3.read_unread, harg4.read_unread, harg5.read_unread, harg9.read_unread, harg10.read_unread, harg11.read_unread, View.ld_unit_zero (S := S1024x8) off2_zero, View.ld_unit_zero (S := S1024x128) off2_zero, View.ld_unit_zero (S := S2000x128) off2_zero, View.ld_unit_zero (S := S1x1x2000) off3_zero]
  rfl

/-- What the body leaves in the scratch at the last point. -/
theorem runC_step (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : ¬cond1_0 i) (hc1 : cond1_1 i)
    (x0 : Vec F S1024x128 .f32) (x1 : Vec F S1024x128 .f32) (x2 : Vec F S2000x128 .f32) (x3 : Vec F S2000x128 .f32) (x4 : Vec F S1x1x2000 .f32) (xs0 : Vec F S1024x8 .f32) (xs1 : Vec F S1024x8 .i32) (xs2 : Vec F S1024x8 .f32) :
    (View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.2.2.1) = step (BitVec.ofNat 32 (i 0).val) x0 x1 x2 x3 x4 (xs0, xs1, xs2) := by
  unfold kernelRun1_C
  dsimp only
  sl_unfold_words
  rw [View.canon_unit_zero (S := S1024x8) off2_zero, View.canon_unit_zero (S := S1024x8) off2_zero, View.canon_unit_zero (S := S1024x8) off2_zero]
  simp only [View.readAt_eq_ld, harg1.read_unread, harg2.read_unread, harg3.read_unread, harg4.read_unread, harg5.read_unread, harg9.read_unread, harg10.read_unread, harg11.read_unread, View.ld_unit_zero (S := S1024x8) off2_zero, View.ld_unit_zero (S := S1024x128) off2_zero, View.ld_unit_zero (S := S2000x128) off2_zero, View.ld_unit_zero (S := S1x1x2000) off3_zero]
  rfl

/-- What the body leaves in the outputs at the last point. -/
theorem outC_step (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x8 .f32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x8 .i32) (harg10 : arg10.IsWhole) (arg11 : Memref sig .tc .vmem S1024x8 .f32) (harg11 : arg11.IsWhole) (hc0 : ¬cond1_0 i) (hc1 : cond1_1 i)
    (x0 : Vec F S1024x128 .f32) (x1 : Vec F S1024x128 .f32) (x2 : Vec F S2000x128 .f32) (x3 : Vec F S2000x128 .f32) (x4 : Vec F S1x1x2000 .f32) (xs0 : Vec F S1024x8 .f32) (xs1 : Vec F S1024x8 .i32) (xs2 : Vec F S1024x8 .f32) :
    (View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1, View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1, View.canon (kernelRun1_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.1) = step (BitVec.ofNat 32 (i 0).val) x0 x1 x2 x3 x4 (xs0, xs1, xs2) := by
  unfold kernelRun1_C
  dsimp only
  sl_unfold_words
  rw [View.canon_unit_zero (S := S1024x8) off2_zero, View.canon_unit_zero (S := S1024x8) off2_zero, View.canon_unit_zero (S := S1024x8) off2_zero]
  simp only [View.readCov_unit_zero (S := S1024x8) _ off2_zero]
  simp only [View.readAt_eq_ld, harg1.read_unread, harg2.read_unread, harg3.read_unread, harg4.read_unread, harg5.read_unread, harg9.read_unread, harg10.read_unread, harg11.read_unread, View.ld_unit_zero (S := S1024x8) off2_zero, View.ld_unit_zero (S := S1024x128) off2_zero, View.ld_unit_zero (S := S2000x128) off2_zero, View.ld_unit_zero (S := S1x1x2000) off3_zero]
  rfl

section Regions
variable (V : (c : Dev nD) → (b : Ref sig .tc) → Buf (Elt F) ((c : Thread nD τ).loc b))

/-- A point's step over its blocks. -/
def stepAt (c : Dev nD) (t : Fin cfg1.N) (p : St F) : St F :=
  step (BitVec.ofNat 32 (grid1.coords t 0).val) (iblk1 V c 0 t) (iblk1 V c 1 t) (iblk1 V c 2 t) (iblk1 V c 3 t) (iblk1 V c 4 t) p

/-- The scratch after the first point. -/
theorem sA_eq (c : Dev nD) (t : Fin cfg1.N) (h0 : t.val % 50 = 0) (h1 : ¬t.val % 50 = 49) : sA V c t h0 h1 = stepAt V c t st0 := by
  unfold sA
  rw [View.read_writes_eq_canon _ _ _ (scoverA_0 V c t h0 h1), View.read_writes_eq_canon _ _ _ (scoverA_1 V c t h0 h1), View.read_writes_eq_canon _ _ _ (scoverA_2 V c t h0 h1)]
  exact runA_step ..

/-- The scratch after a point between. -/
theorem sB_eq (c : Dev nD) (t : Fin cfg1.N) (h0 : ¬t.val % 50 = 0) (h1 : ¬t.val % 50 = 49) (p : St F) : sB V c t h0 h1 p = stepAt V c t p := by
  unfold sB
  rw [View.read_writes_eq_canon _ _ _ (scoverB_0 V c t h0 h1 p), View.read_writes_eq_canon _ _ _ (scoverB_1 V c t h0 h1 p), View.read_writes_eq_canon _ _ _ (scoverB_2 V c t h0 h1 p)]
  exact runB_step ..

set_option maxHeartbeats 3200000 in
/-- The scratch after the last point. -/
theorem sC_eq (c : Dev nD) (t : Fin cfg1.N) (h0 : ¬t.val % 50 = 0) (h1 : t.val % 50 = 49) (p : St F) : sC V c t h0 h1 p = stepAt V c t p := by
  unfold sC
  rw [View.read_writes_eq_canon _ _ _ (scoverC_0 V c t h0 h1 p), View.read_writes_eq_canon _ _ _ (scoverC_1 V c t h0 h1 p), View.read_writes_eq_canon _ _ _ (scoverC_2 V c t h0 h1 p)]
  exact runC_step ..

set_option maxHeartbeats 3200000 in
/-- The outputs at the last point. -/
theorem oC_eq (c : Dev nD) (t : Fin cfg1.N) (h0 : ¬t.val % 50 = 0) (h1 : t.val % 50 = 49) (p : St F) : oC V c t h0 h1 p = stepAt V c t p := by
  unfold oC
  rw [View.read_writes_eq_canon _ _ _ (coverC_5 V c t h0 h1 p), View.read_writes_eq_canon _ _ _ (coverC_6 V c t h0 h1 p), View.read_writes_eq_canon _ _ _ (coverC_7 V c t h0 h1 p)]
  exact outC_step ..

/-- The scratch before position `n`: every point's step from the start. -/
def tiles (c : Dev nD) : (n : ℕ) → n ≤ cfg1.N → St F
  | 0, _ => st0
  | n + 1, hn => stepAt V c ⟨n, hn⟩ (tiles c n (Nat.le_of_lt hn))

/-- After point `n` the scratch holds that. -/
theorem stAt1_eq (c : Dev nD) : ∀ (n : ℕ) (hn : n < cfg1.N), stAt1 V c n hn = tiles V c (n + 1) hn
  | 0, hn => (stAt1_A V c ⟨0, hn⟩ (Nat.zero_mod _) (fun h => by dsimp only at h; omega)).trans (sA_eq V c _ _ _)
  | n + 1, hn => by
    have ih := stAt1_eq c n (Nat.lt_of_succ_lt hn)
    have hN : n + 1 < 50 := hn
    have h0 : ¬(n + 1) % 50 = 0 := by omega
    have hp : stPrev V c ⟨n + 1, hn⟩ = tiles V c (n + 1) (Nat.le_of_lt hn) := ih
    by_cases h1 : (n + 1) % 50 = 49
    · exact (stAt1_C V c ⟨n + 1, hn⟩ h0 h1).trans ((sC_eq V c _ _ _ _).trans (by rw [hp]; rfl))
    · exact (stAt1_B V c ⟨n + 1, hn⟩ h0 h1).trans ((sB_eq V c _ _ _ _).trans (by rw [hp]; rfl))

/-- At the last point the outputs' buffers hold what fifty steps give. -/
theorem outAt1_eq (c : Dev nD) (t : Fin cfg1.N) (h1 : t.val % 50 = 49) : outAt1 V c t = tiles V c cfg1.N (le_refl _) := by
  have hN : t.val < 50 := t.isLt
  have h0 : ¬t.val % 50 = 0 := by omega
  have h49 : t.val = 49 := by omega
  rw [outAt1_C V c t h0 h1, oC_eq, ← sC_eq V c t h0 h1, ← stAt1_C V c t h0 h1, stAt1_eq]
  have e : ∀ n (hn : n ≤ cfg1.N), n = cfg1.N → tiles V c n hn = tiles V c cfg1.N (le_refl _) := by intro n hn h; subst h; rfl
  exact e _ _ (by show t.val + 1 = 50; omega)

end Regions

end Cert.KernelIdeal.Two

end
-- ==== Proof.Select.lean ====
module

public import Idealize.ShloMosaic.Lib.SortPrefix
public import Idealize.ShloMosaic.PureOps.Ideal

@[expose] public section

/-!
The k greatest entries of a row, and one round of the selection that finds them: mathematics alone, about columns that
are natural numbers, a score `f` and a payload `g`.
-/

namespace Cert.Select

open Idealize.ShloMosaic

/-- Column `a` comes before column `b`: its score is greater, or the scores are equal and `a` is the lower column. -/
def Beats (f : ℕ → EReal) (a b : ℕ) : Prop := f b < f a ∨ (f a = f b ∧ a < b)

/-- The number of columns of `C` that come before `c`. -/
noncomputable def rank (f : ℕ → EReal) (C : Finset ℕ) (c : ℕ) : ℕ := by
  classical exact (C.filter fun a => Beats f a c).card

/-- `c` is the column of `C` that has exactly `j` columns of `C` before it. -/
def IsTop (f : ℕ → EReal) (C : Finset ℕ) (j c : ℕ) : Prop := c ∈ C ∧ rank f C c = j

/-- No column comes before itself. -/
theorem beats_irrefl (f : ℕ → EReal) (a : ℕ) : ¬ Beats f a a := by
  rintro (h | ⟨-, h⟩)
  · exact lt_irrefl _ h
  · exact lt_irrefl _ h

/-- Coming before is transitive. -/
theorem Beats.trans {f : ℕ → EReal} {a b c : ℕ} (hab : Beats f a b) (hbc : Beats f b c) : Beats f a c := by
  rcases hab with h | ⟨e, h⟩ <;> rcases hbc with h' | ⟨e', h'⟩
  · exact Or.inl (lt_trans h' h)
  · exact Or.inl (e' ▸ h)
  · exact Or.inl (e ▸ h')
  · exact Or.inr ⟨e.trans e', lt_trans h h'⟩

/-- Of two different columns one comes before the other. -/
theorem beats_total (f : ℕ → EReal) {a b : ℕ} (h : a ≠ b) : Beats f a b ∨ Beats f b a := by
  rcases lt_trichotomy (f a) (f b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- A column that comes before another one has the smaller rank. -/
theorem rank_lt {f : ℕ → EReal} {C : Finset ℕ} {a b : ℕ} (ha : a ∈ C) (h : Beats f a b) : rank f C a < rank f C b := by
  classical
  unfold rank
  refine Finset.card_lt_card ⟨fun x hx => ?_, fun hs => ?_⟩
  · rw [Finset.mem_filter] at hx ⊢
    exact ⟨hx.1, hx.2.trans h⟩
  · have := hs (Finset.mem_filter.mpr ⟨ha, h⟩)
    exact beats_irrefl f a (Finset.mem_filter.mp this).2

/-- A rank names one column at most. -/
theorem IsTop.unique {f : ℕ → EReal} {C : Finset ℕ} {j a b : ℕ} (ha : IsTop f C j a) (hb : IsTop f C j b) : a = b := by
  by_contra hne
  rcases beats_total f hne with h | h
  · exact absurd (rank_lt ha.1 h) (by rw [ha.2, hb.2]; exact lt_irrefl _)
  · exact absurd (rank_lt hb.1 h) (by rw [ha.2, hb.2]; exact lt_irrefl _)

/-- A rank of a column of `C` is below the number of columns. -/
theorem rank_lt_card {f : ℕ → EReal} {C : Finset ℕ} {a : ℕ} (ha : a ∈ C) : rank f C a < C.card := by
  classical
  unfold rank
  refine Finset.card_lt_card ⟨Finset.filter_subset _ _, fun hs => ?_⟩
  exact beats_irrefl f a (Finset.mem_filter.mp (hs ha)).2

/-- Every rank below the number of columns is taken. -/
theorem exists_isTop (f : ℕ → EReal) {C : Finset ℕ} {j : ℕ} (hj : j < C.card) : ∃ c, IsTop f C j c := by
  classical
  have hs := Finset.surj_on_of_inj_on_of_card_le (s := C) (t := Finset.range C.card) (fun a _ => rank f C a)
    (fun a ha => Finset.mem_range.mpr (rank_lt_card ha))
    (fun a b ha hb e => IsTop.unique (f := f) (C := C) (j := rank f C a) ⟨ha, rfl⟩ ⟨hb, e.symm⟩)
    (by rw [Finset.card_range])
  obtain ⟨a, ha, e⟩ := hs j (Finset.mem_range.mpr hj)
  exact ⟨a, ha, e.symm⟩

/-- The first `k` columns of `A` stand for all of `A`: joined with further columns `B` they have the same first `k`. -/
theorem IsTop.of_prefix {f : ℕ → EReal} {A B : Finset ℕ} {k : ℕ} {p : ℕ → ℕ} (hp : ∀ i < k, IsTop f A i (p i))
    {j c : ℕ} (hj : j < k) (hcard : k ≤ (A ∪ B).card)
    (h : IsTop f ((Finset.range k).image p ∪ B) j c) : IsTop f (A ∪ B) j c := by
  classical
  obtain ⟨c', hc'⟩ := exists_isTop f (lt_of_lt_of_le hj hcard)
  have hin : ∀ a ∈ A, rank f A a < k → a ∈ (Finset.range k).image p := fun a ha hr =>
    Finset.mem_image.mpr ⟨rank f A a, Finset.mem_range.mpr hr, (hp _ hr).unique ⟨ha, rfl⟩⟩
  have hsub : (Finset.range k).image p ⊆ A := fun a ha => by
    obtain ⟨i, hi, rfl⟩ := Finset.mem_image.mp ha
    exact (hp i (Finset.mem_range.mp hi)).1
  have hle : ∀ a, rank f A a ≤ rank f (A ∪ B) a := fun a =>
    Finset.card_le_card (Finset.filter_subset_filter _ Finset.subset_union_left)
  have hkeep : ∀ a ∈ A, rank f (A ∪ B) a < k → a ∈ (Finset.range k).image p := fun a ha hr =>
    hin a ha (lt_of_le_of_lt (hle a) hr)
  have hc'' : IsTop f ((Finset.range k).image p ∪ B) j c' := by
    constructor
    · rcases Finset.mem_union.mp hc'.1 with h1 | h1
      · exact Finset.mem_union_left _ (hkeep c' h1 (by rw [hc'.2]; exact hj))
      · exact Finset.mem_union_right _ h1
    · rw [← hc'.2]
      unfold rank
      congr 1
      ext a
      simp only [Finset.mem_filter, Finset.mem_union]
      constructor
      · rintro ⟨h1 | h1, h2⟩
        · exact ⟨Or.inl (hsub h1), h2⟩
        · exact ⟨Or.inr h1, h2⟩
      · rintro ⟨h1 | h1, h2⟩
        · refine ⟨Or.inl (hkeep a h1 ?_), h2⟩
          have := rank_lt (f := f) (C := A ∪ B) (Finset.mem_union_left _ h1) h2
          rw [hc'.2] at this
          exact lt_trans this hj
        · exact ⟨Or.inr h1, h2⟩
  rw [h.unique hc'']
  exact hc'

/-- The columns of `C` that have at least `r` columns before them. -/
noncomputable def from_ (f : ℕ → EReal) (C : Finset ℕ) (r : ℕ) : Finset ℕ := by
  classical exact C.filter fun c => r ≤ rank f C c

/-- At first that is all of `C`. -/
theorem from_zero (f : ℕ → EReal) (C : Finset ℕ) : from_ f C 0 = C := by
  unfold from_; simp

/-- The column of rank `r` comes before everything that is left. -/
theorem IsTop.best {f : ℕ → EReal} {C : Finset ℕ} {r c a : ℕ} (h : IsTop f C r c) (ha : a ∈ from_ f C r) (hne : a ≠ c) :
    Beats f c a := by
  classical
  unfold from_ at ha
  rw [Finset.mem_filter] at ha
  rcases beats_total f hne with h1 | h1
  · have := rank_lt ha.1 h1
    rw [h.2] at this
    exact absurd this (not_lt.mpr ha.2)
  · exact h1

/-- The column of rank `r` is one of those left. -/
theorem IsTop.mem_from {f : ℕ → EReal} {C : Finset ℕ} {r c : ℕ} (h : IsTop f C r c) : c ∈ from_ f C r := by
  classical
  unfold from_
  exact Finset.mem_filter.mpr ⟨h.1, h.2.ge⟩

/-- Taking it away leaves the columns with at least `r + 1` columns before them. -/
theorem IsTop.erase_from {f : ℕ → EReal} {C : Finset ℕ} {r c : ℕ} (h : IsTop f C r c) :
    (from_ f C r).erase c = from_ f C (r + 1) := by
  classical
  unfold from_
  ext a
  simp only [Finset.mem_erase, Finset.mem_filter]
  constructor
  · rintro ⟨h1, h2, h3⟩
    refine ⟨h2, Nat.lt_of_le_of_ne h3 fun e => h1 ?_⟩
    exact IsTop.unique ⟨h2, e.symm⟩ h
  · rintro ⟨h2, h3⟩
    refine ⟨?_, h2, by omega⟩
    rintro rfl
    rw [h.2] at h3
    omega

/-- The candidates `k`, of score `v k`, column word `i k` and payload `t k`, hold exactly the columns of `C`: each of
    them once, and every other candidate is masked with −∞. -/
def Holds {K : Type} (f g : ℕ → EReal) (v : K → EReal) (i : K → BitVec 32) (t : K → EReal) (C : Finset ℕ) : Prop :=
  ∃ κ : ℕ → K, (∀ c ∈ C, v (κ c) = f c ∧ i (κ c) = BitVec.ofNat 32 c ∧ t (κ c) = g c)
    ∧ ∀ k, ⊥ < v k → ∃ c ∈ C, κ c = k

/-- A column below 2³⁰ is the signed value of its word. -/
theorem toInt_ofNat {c : ℕ} (hc : c < 1073741824) : (BitVec.ofNat 32 c).toInt = c := by
  rw [BitVec.toInt_eq_toNat_of_lt]
  · rw [BitVec.toNat_ofNat]; omega
  · rw [BitVec.toNat_ofNat]; omega

/-- Two columns below 2³⁰ with the same word are the same. -/
theorem ofNat_inj {c d : ℕ} (hc : c < 1073741824) (hd : d < 1073741824) (h : BitVec.ofNat 32 c = BitVec.ofNat 32 d) :
    c = d := by
  have := congrArg BitVec.toInt h
  rw [toInt_ofNat hc, toInt_ofNat hd] at this
  exact_mod_cast this

section Round

variable {K : Type} {f g : ℕ → EReal} {v : K → EReal} {i : K → BitVec 32} {t : K → EReal} {C : Finset ℕ} {r c : ℕ}

/-- The greatest score of the candidates is that of the column of rank `r`. -/
theorem round_max (hf : ∀ a ∈ C, ⊥ < f a) (h : Holds f g v i t (from_ f C r)) (hc : IsTop f C r c) :
    (∀ k, v k ≤ f c) ∧ ∃ k, v k = f c := by
  obtain ⟨κ, h1, h2⟩ := h
  refine ⟨fun k => ?_, κ c, (h1 c hc.mem_from).1⟩
  by_cases hk : ⊥ < v k
  · obtain ⟨a, ha, rfl⟩ := h2 k hk
    rw [(h1 a ha).1]
    by_cases hac : a = c
    · rw [hac]
    · rcases hc.best ha hac with h3 | ⟨h3, -⟩
      · exact le_of_lt h3
      · exact h3.ge
  · rw [not_bot_lt_iff.mp hk]; exact bot_le

/-- The lowest column word among the candidates of that score is that of the column of rank `r`. -/
theorem round_index (hf : ∀ a ∈ C, ⊥ < f a) (hC : ∀ a ∈ C, a < 1073741824) (h : Holds f g v i t (from_ f C r))
    (hc : IsTop f C r c) :
    (∃ k, v k = f c ∧ i k = BitVec.ofNat 32 c) ∧ ∀ k, v k = f c → ∃ a, a ∈ C ∧ c ≤ a ∧ i k = BitVec.ofNat 32 a := by
  classical
  obtain ⟨κ, h1, h2⟩ := h
  refine ⟨⟨κ c, (h1 c hc.mem_from).1, (h1 c hc.mem_from).2.1⟩, fun k hk => ?_⟩
  obtain ⟨a, ha, rfl⟩ := h2 k (by rw [hk]; exact hf c hc.1)
  have haC : a ∈ C := by unfold from_ at ha; exact (Finset.mem_filter.mp ha).1
  refine ⟨a, haC, ?_, (h1 a ha).2.1⟩
  by_cases hac : a = c
  · exact hac.ge
  · rcases hc.best ha hac with h3 | ⟨-, h3⟩
    · rw [← hk, (h1 a ha).1] at h3; exact absurd h3 (lt_irrefl _)
    · exact le_of_lt h3

/-- One candidate alone has that score and that column word, and its payload is the column's. -/
theorem round_one (hf : ∀ a ∈ C, ⊥ < f a) (hC : ∀ a ∈ C, a < 1073741824) (h : Holds f g v i t (from_ f C r))
    (hc : IsTop f C r c) :
    ∃ k₀, t k₀ = g c ∧ ∀ k, (v k = f c ∧ i k = BitVec.ofNat 32 c) ↔ k = k₀ := by
  classical
  obtain ⟨κ, h1, h2⟩ := h
  refine ⟨κ c, (h1 c hc.mem_from).2.2, fun k => ⟨fun ⟨e1, e2⟩ => ?_, ?_⟩⟩
  · obtain ⟨a, ha, rfl⟩ := h2 k (by rw [e1]; exact hf c hc.1)
    have haC : a ∈ C := by unfold from_ at ha; exact (Finset.mem_filter.mp ha).1
    rw [(h1 a ha).2.1] at e2
    rw [ofNat_inj (hC a haC) (hC c hc.1) e2]
  · rintro rfl
    exact ⟨(h1 c hc.mem_from).1, (h1 c hc.mem_from).2.1⟩

/-- Masking it leaves the columns with at least `r + 1` columns before them. -/
theorem round_next (hC : ∀ a ∈ C, a < 1073741824) (h : Holds f g v i t (from_ f C r))
    (hc : IsTop f C r c) {v' : K → EReal} (hv : ∀ k, v k = f c ∧ i k = BitVec.ofNat 32 c → v' k = ⊥)
    (hv' : ∀ k, ¬ (v k = f c ∧ i k = BitVec.ofNat 32 c) → v' k = v k) : Holds f g v' i t (from_ f C (r + 1)) := by
  classical
  obtain ⟨κ, h1, h2⟩ := h
  rw [← hc.erase_from]
  refine ⟨κ, fun a ha => ?_, fun k hk => ?_⟩
  · obtain ⟨hne, ha⟩ := Finset.mem_erase.mp ha
    have haC : a ∈ C := by unfold from_ at ha; exact (Finset.mem_filter.mp ha).1
    refine ⟨?_, (h1 a ha).2⟩
    rw [hv', (h1 a ha).1]
    rintro ⟨-, e⟩
    rw [(h1 a ha).2.1] at e
    exact hne (ofNat_inj (hC a haC) (hC c hc.1) e)
  · by_cases hkc : v k = f c ∧ i k = BitVec.ofNat 32 c
    · rw [hv k hkc] at hk; exact absurd hk (lt_irrefl _)
    · rw [hv' k hkc] at hk
      obtain ⟨a, ha, rfl⟩ := h2 k hk
      refine ⟨a, Finset.mem_erase.mpr ⟨?_, ha⟩, rfl⟩
      rintro rfl
      exact hkc ⟨(h1 a ha).1, (h1 a ha).2.1⟩

end Round

/-- Eight running entries hold the first eight columns below `n`; before any column they are all −∞. -/
def Kept (f g : ℕ → EReal) (n : ℕ) (rv : ℕ → EReal) (ri : ℕ → BitVec 32) (rt : ℕ → EReal) : Prop :=
  (n = 0 ∧ ∀ j < 8, rv j = ⊥) ∨
    ∃ p : ℕ → ℕ, ∀ j < 8, IsTop f (Finset.range n) j (p j) ∧ rv j = f (p j) ∧ ri j = BitVec.ofNat 32 (p j) ∧ rt j = g (p j)

/-- The running entries followed by the next 2000 columns are candidates whose first eight columns are the first eight
    of all the columns so far. -/
theorem Kept.candidates {f g : ℕ → EReal} {n N : ℕ} {rv : ℕ → EReal} {ri : ℕ → BitVec 32} {rt : ℕ → EReal}
    (h : Kept f g n rv ri rt) {v : Fin 2008 → EReal} {i : Fin 2008 → BitVec 32} {t : Fin 2008 → EReal}
    (hv : ∀ k : Fin 2008, k.val < 8 → v k = rv k ∧ i k = ri k ∧ t k = rt k)
    (hv' : ∀ k : Fin 2008, 8 ≤ k.val →
      v k = f (n + (k - 8)) ∧ i k = BitVec.ofNat 32 (n + (k - 8)) ∧ t k = g (n + (k - 8)))
    (hN : n + 2000 ≤ N) :
    ∃ C : Finset ℕ, (∀ c ∈ C, c < N) ∧ 8 ≤ C.card ∧ Holds f g v i t C
      ∧ ∀ j < 8, ∀ c, IsTop f C j c → IsTop f (Finset.range (n + 2000)) j c := by
  classical
  have hnew : ∀ c, n ≤ c → c < n + 2000 → ∃ k : Fin 2008, k.val = c - n + 8 ∧ v k = f c ∧ i k = BitVec.ofNat 32 c ∧ t k = g c :=
    fun c h1 h2 => by
      refine ⟨⟨c - n + 8, by omega⟩, rfl, ?_⟩
      have := hv' ⟨c - n + 8, by omega⟩ (by simp)
      have e : n + (c - n + 8 - 8) = c := by omega
      simpa only [e] using this
  rcases h with ⟨rfl, hbot⟩ | ⟨p, hp⟩
  · refine ⟨Finset.range 2000, fun c hc => ?_, by rw [Finset.card_range]; omega, ?_, fun j _ c hc => by simpa using hc⟩
    · rw [Finset.mem_range] at hc; omega
    · refine ⟨fun c => if hc : c < 2000 then ⟨c + 8, by omega⟩ else ⟨0, by omega⟩, fun c hc => ?_, fun k hk => ?_⟩
      · rw [Finset.mem_range] at hc
        obtain ⟨k, hk, h3⟩ := hnew c (by omega) (by omega)
        have e : (if hc : c < 2000 then (⟨c + 8, by omega⟩ : Fin 2008) else ⟨0, by omega⟩) = k := by
          rw [dif_pos hc]; exact Fin.ext (by rw [hk]; simp)
        simp only [e]
        exact h3
      · have hk8 : 8 ≤ k.val := by
          by_contra hlt
          rw [(hv k (by omega)).1, hbot _ (by omega)] at hk
          exact lt_irrefl _ hk
        have hlt := k.isLt
        refine ⟨k - 8, Finset.mem_range.mpr (by omega), ?_⟩
        show (if hc : k.val - 8 < 2000 then (⟨k.val - 8 + 8, by omega⟩ : Fin 2008) else ⟨0, by omega⟩) = k
        rw [dif_pos (by omega)]
        exact Fin.ext (by show k.val - 8 + 8 = k.val; omega)
  · have hlt : ∀ j < 8, p j < n := fun j hj => Finset.mem_range.mp (hp j hj).1.1
    have hinj : ∀ a < 8, ∀ b < 8, p a = p b → a = b := fun a ha b hb e => by
      rw [← (hp a ha).1.2, ← (hp b hb).1.2, e]
    have hrange : Finset.range (n + 2000) = Finset.range n ∪ Finset.Ico n (n + 2000) := by
      ext a; simp only [Finset.mem_range, Finset.mem_union, Finset.mem_Ico]; omega
    refine ⟨(Finset.range 8).image p ∪ Finset.Ico n (n + 2000), fun c hc => ?_, ?_, ?_, fun j hj c hc => ?_⟩
    · rcases Finset.mem_union.mp hc with h1 | h1
      · obtain ⟨j, hj, rfl⟩ := Finset.mem_image.mp h1
        have := hlt j (Finset.mem_range.mp hj); omega
      · have := (Finset.mem_Ico.mp h1).2; omega
    · refine le_trans ?_ (Finset.card_le_card Finset.subset_union_right)
      rw [Nat.card_Ico]; omega
    · have hpick : ∀ c, ∃ k : Fin 2008, (c < n → ∀ j < 8, p j = c → k.val = j) ∧ (n ≤ c → c < n + 2000 → k.val = c - n + 8) := fun c => by
        by_cases h1 : c < n
        · by_cases h2 : ∃ j < 8, p j = c
          · obtain ⟨j, hj, rfl⟩ := h2
            exact ⟨⟨j, by omega⟩, fun _ j' hj' e => hinj j hj j' hj' e.symm, fun h => by omega⟩
          · exact ⟨⟨0, by omega⟩, fun _ j hj e => absurd ⟨j, hj, e⟩ h2, fun h => by omega⟩
        · by_cases h2 : c < n + 2000
          · exact ⟨⟨c - n + 8, by omega⟩, fun h => absurd h h1, fun _ _ => rfl⟩
          · exact ⟨⟨0, by omega⟩, fun h => absurd h h1, fun _ h => absurd h h2⟩
      choose κ hκ using hpick
      refine ⟨κ, fun c hc => ?_, fun k _ => ?_⟩
      · rcases Finset.mem_union.mp hc with h1 | h1
        · obtain ⟨j, hj, rfl⟩ := Finset.mem_image.mp h1
          have hj := Finset.mem_range.mp hj
          have e := (hκ (p j)).1 (hlt j hj) j hj rfl
          obtain ⟨e1, e2, e3⟩ := hv (κ (p j)) (by omega)
          rw [e1, e2, e3, e]
          exact (hp j hj).2
        · obtain ⟨h1, h2⟩ := Finset.mem_Ico.mp h1
          obtain ⟨k, hk, h3⟩ := hnew c h1 h2
          have e : κ c = k := Fin.ext (by rw [(hκ c).2 h1 h2, hk])
          rw [e]
          exact h3
      · by_cases hk : k.val < 8
        · exact ⟨p k, Finset.mem_union_left _ (Finset.mem_image_of_mem p (Finset.mem_range.mpr hk)),
            Fin.ext ((hκ (p k)).1 (hlt _ hk) _ hk rfl)⟩
        · have := k.isLt
          refine ⟨n + (k - 8), Finset.mem_union_right _ (Finset.mem_Ico.mpr ⟨by omega, by omega⟩), Fin.ext ?_⟩
          rw [(hκ _).2 (by omega) (by omega)]; omega
    · rw [hrange]
      refine IsTop.of_prefix (k := 8) (p := p) (fun i hi => (hp i hi).1) hj ?_ hc
      refine le_trans ?_ (Finset.card_le_card Finset.subset_union_right)
      rw [Nat.card_Ico]; omega

/-! ### The stable sort's first positions -/

/-- A stable insertion sort of an increasing list by a relation is its sort by the relation with ties broken by
    position. -/
theorem stableSort_tie {n : Nat} (R : Fin n → Fin n → Bool) (E : Fin n → Fin n → Bool) (l : List (Fin n))
    (hl : l.Pairwise (· < ·)) :
    stableSort R l = stableSort (fun a b => R a b || (E a b && decide (a < b))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (le_of_lt (hl.1 b hb'))
    simp [this]

/-- Position `j` of a stable sort by "greater first" comes from the column that has exactly `j` columns before it. -/
theorem sortedFrom_isTop {n : Nat} (f : ℕ → EReal) (R : Fin n → Fin n → Bool)
    (hR : ∀ a b : Fin n, R a b = decide (f b < f a)) (j : Fin n) :
    IsTop f (Finset.range n) j (sortedFrom R j) := by
  classical
  let B : Fin n → Fin n → Bool := fun a b => decide (Beats f a b)
  have hB : StrictTotalBefore B :=
    { irrefl := fun a => by simpa [B] using beats_irrefl f a
      trans := fun a b c h1 h2 => by
        simp only [B, decide_eq_true_eq] at h1 h2 ⊢
        exact h1.trans h2
      total := fun a b h => by
        simp only [B, decide_eq_true_eq]
        exact beats_total f fun e => h (Fin.ext e) }
  have hRB : sortPositions n R = sortPositions n B := by
    unfold sortPositions
    rw [stableSort_tie R (fun a b => decide (f a = f b)) (List.finRange n) (List.pairwise_lt_finRange n)]
    congr 1
    funext a b
    simp only [hR, B, Beats]
    by_cases h1 : f b < f a <;> by_cases h2 : f a = f b <;> simp [h1, h2]
  have hex : ∀ i : Fin n, ∃ c : Fin n, IsTop f (Finset.range n) i c := fun i => by
    obtain ⟨c, hc⟩ := exists_isTop f (C := Finset.range n) (j := i) (by rw [Finset.card_range]; exact i.isLt)
    exact ⟨⟨c, Finset.mem_range.mp hc.1⟩, hc⟩
  choose σ hσ using hex
  have hinj : Function.Injective σ := fun a b e => Fin.ext (by rw [← (hσ a).2, ← (hσ b).2, e])
  have key := hB.sortedFrom_eq_of_prefix (le_refl n) σ hinj
    (fun i k hik => by
      simp only [B, decide_eq_false_iff_not]
      intro hb
      have := rank_lt (hσ k).1 hb
      rw [(hσ k).2, (hσ i).2] at this
      exact absurd hik (not_lt.mpr (le_of_lt this)))
    (fun i q hq => absurd ((Finite.injective_iff_surjective.mp hinj) q) (by rintro ⟨a, ha⟩; exact hq a ha))
    j
  have e : sortedFrom R j = σ j := by
    have e2 : sortedFrom R j = sortedFrom B j := by
      unfold sortedFrom
      rw [List.get_of_eq hRB]
      rfl
    rw [e2]
    exact key
  rw [e]
  exact hσ j

end Cert.Select
-- ==== Proof.IRead.lean ====
module

public import proofs.«01_k».proof.Proof.IStep
public import proofs.«01_k».proof.Proof.Select
public import Idealize.ShloMosaic.Lib.Pointwise
public import Idealize.ShloMosaic.Lib.ValueIdx

@[expose] public section

noncomputable section

/-!
The rounds of selection read at one row, at ideal floats: a round finds the greatest score, the lowest column word of that
score and that column's payload, and masks that candidate.
-/

namespace Cert.KernelIdeal.Two

open Cert.KernelIdeal.Gen Cert.Select
open Idealize.ShloMosaic

/-- The mask's literal is the least value. -/
theorem negInf_eq : Ideal.ofBits .f32 0xFF800000#32 = ⊥ := by simp [Ideal.ofBits, Ideal.ieee]

/-- A selection on a decision is a conditional. -/
theorem selectBool {α : Type} (b : Bool) (x y : α) : Scalar.select (BitVec.ofBool b) x y = if b = true then x else y := by
  cases b <;> rfl

/-- The greatest score at a row. -/
theorem rMax_at (v : FVec Ideal S1024x2008 .f32) (i : Fin 1024) :
    rMax v (ix2 i 0) = Finset.univ.fold max ⊥ (fun k : Fin 2008 => v (ix2 i k)) := by
  unfold rMax
  pointwise
  rw [negInf_eq]

/-- Where the row's greatest score is met. -/
theorem rEq_at (v : FVec Ideal S1024x2008 .f32) (i : Fin 1024) (k : Fin 2008) :
    rEq v (ix2 i k) = BitVec.ofBool (decide (v (ix2 i k) = rMax v (ix2 i 0))) := by
  unfold rEq
  pointwise

/-- The column word found at a row. -/
theorem rIdx_at (v : FVec Ideal S1024x2008 .f32) (ix : IVec S1024x2008 32) (i : Fin 1024) :
    rIdx v ix (ix2 i 0) = Finset.univ.fold IntOp.minsi 2147483647#32
      (fun k : Fin 2008 => if v (ix2 i k) = rMax v (ix2 i 0) then ix (ix2 i k) else 1073741824#32) := by
  unfold rIdx
  pointwise
  congr 1
  funext k
  rw [rEq_at, selectBool]
  simp only [decide_eq_true_eq]

/-- The candidate found at a row. -/
theorem rOne_at (v : FVec Ideal S1024x2008 .f32) (ix : IVec S1024x2008 32) (i : Fin 1024) (k : Fin 2008) :
    rOne v ix (ix2 i k) = BitVec.ofBool (decide (v (ix2 i k) = rMax v (ix2 i 0) ∧ ix (ix2 i k) = rIdx v ix (ix2 i 0))) := by
  unfold rOne
  pointwise
  rw [rEq_at]
  by_cases h1 : v (ix2 i k) = rMax v (ix2 i 0) <;> by_cases h2 : ix (ix2 i k) = rIdx v ix (ix2 i 0) <;>
    simp [h1, h2, IntOp.andi, IntOp.cmpi, beq_eq_false_iff_ne.mpr]

/-- The payload found at a row. -/
theorem rPay_at (v : FVec Ideal S1024x2008 .f32) (ix : IVec S1024x2008 32) (tw : FVec Ideal S1024x2008 .f32) (i : Fin 1024) :
    rPay v ix tw (ix2 i 0) = ∑ k : Fin 2008,
      if v (ix2 i k) = rMax v (ix2 i 0) ∧ ix (ix2 i k) = rIdx v ix (ix2 i 0) then tw (ix2 i k) else 0 := by
  unfold rPay
  pointwise
  refine Finset.sum_congr rfl fun k _ => ?_
  rw [rOne_at, selectBool]
  simp only [decide_eq_true_eq]

/-- The scores after a round. -/
theorem rNext_at (v : FVec Ideal S1024x2008 .f32) (ix : IVec S1024x2008 32) (i : Fin 1024) (k : Fin 2008) :
    rNext ix v (ix2 i k) =
      if v (ix2 i k) = rMax v (ix2 i 0) ∧ ix (ix2 i k) = rIdx v ix (ix2 i 0) then ⊥ else v (ix2 i k) := by
  unfold rNext
  pointwise
  rw [rOne_at, selectBool, negInf_eq]
  simp only [decide_eq_true_eq]

/-- Eight columns side by side, read. -/
theorem cols_at {α : Type} (u : ℕ → S1024x1.Idx → α) (i : Fin 1024) (k : Fin 8) :
    cols u (ix2 i k) = u k.val (ix2 i 0) := by
  unfold cols
  fin_cases k
  all_goals pointwise
  all_goals rfl

/-- A fold of the signed minimum that is at least a word everywhere and meets it is that word. -/
theorem fold_minsi_eq {n : ℕ} (g : Fin n → BitVec 32) (init w : BitVec 32) (h0 : w.toInt ≤ init.toInt)
    (h1 : ∀ k, w.toInt ≤ (g k).toInt) (k₀ : Fin n) (h2 : g k₀ = w) : Finset.univ.fold IntOp.minsi init g = w := by
  have hmin : ∀ a b : BitVec 32, (IntOp.minsi a b).toInt = min a.toInt b.toInt := fun a b => by
    unfold IntOp.minsi
    by_cases h : a.slt b = true
    · rw [if_pos h]; rw [BitVec.slt_iff_toInt_lt] at h; exact (min_eq_left (le_of_lt h)).symm
    · rw [if_neg h]; rw [BitVec.slt_iff_toInt_lt] at h; exact (min_eq_right (not_lt.mp h)).symm
  have key : ∀ s : Finset (Fin n), w.toInt ≤ (s.fold IntOp.minsi init g).toInt
      ∧ ∀ k ∈ s, (s.fold IntOp.minsi init g).toInt ≤ (g k).toInt := fun s => by
    classical
    refine Finset.induction_on s ⟨by rw [Finset.fold_empty]; exact h0, fun k hk => absurd hk (Finset.notMem_empty k)⟩ ?_
    intro a s ha ih
    rw [Finset.fold_insert ha, hmin]
    refine ⟨le_min (h1 a) ih.1, fun k hk => ?_⟩
    rcases Finset.mem_insert.mp hk with rfl | hk
    · exact min_le_left _ _
    · exact (min_le_right _ _).trans (ih.2 k hk)
  have h := key Finset.univ
  exact BitVec.eq_of_toInt_eq (le_antisymm (h2 ▸ h.2 k₀ (Finset.mem_univ _)) h.1)

variable {f g : ℕ → EReal} {C : Finset ℕ} {r c : ℕ} {v tw : FVec Ideal S1024x2008 .f32} {ix : IVec S1024x2008 32} {i : Fin 1024}

/-- What a row's candidates hold. -/
abbrev Row (f g : ℕ → EReal) (v : FVec Ideal S1024x2008 .f32) (ix : IVec S1024x2008 32) (tw : FVec Ideal S1024x2008 .f32)
    (i : Fin 1024) (C : Finset ℕ) : Prop :=
  Holds f g (fun k : Fin 2008 => v (ix2 i k)) (fun k => ix (ix2 i k)) (fun k => tw (ix2 i k)) C

/-- A round's score is the score of the column that is next. -/
theorem rMax_row (hf : ∀ a ∈ C, ⊥ < f a) (h : Row f g v ix tw i (from_ f C r)) (hc : IsTop f C r c) :
    rMax v (ix2 i 0) = f c := by
  obtain ⟨h1, k, hk⟩ := round_max hf h hc
  rw [rMax_at]
  refine le_antisymm ?_ ?_
  · rw [Finset.fold_max_le]; exact ⟨bot_le, fun k _ => h1 k⟩
  · rw [Finset.le_fold_max]; exact Or.inr ⟨k, Finset.mem_univ _, hk.ge⟩

/-- A round's column word is that column's. -/
theorem rIdx_row (hf : ∀ a ∈ C, ⊥ < f a) (hC : ∀ a ∈ C, a < 1073741824) (h : Row f g v ix tw i (from_ f C r))
    (hc : IsTop f C r c) : rIdx v ix (ix2 i 0) = BitVec.ofNat 32 c := by
  obtain ⟨⟨k₀, hk, hi⟩, h2⟩ := round_index hf hC h hc
  rw [rIdx_at, rMax_row hf h hc]
  have hcC := hC c hc.1
  refine fold_minsi_eq _ _ _ ?_ (fun k => ?_) k₀ ?_
  · rw [toInt_ofNat hcC]
    have e : (2147483647#32 : BitVec 32).toInt = 2147483647 := by decide
    omega
  · by_cases hv : v (ix2 i k) = f c
    · rw [if_pos hv]
      obtain ⟨a, ha, hca, e⟩ := h2 k hv
      rw [e, toInt_ofNat hcC, toInt_ofNat (hC a ha)]
      exact_mod_cast hca
    · rw [if_neg hv, toInt_ofNat hcC]
      have e : (1073741824#32 : BitVec 32).toInt = 1073741824 := by decide
      omega
  · exact (if_pos hk).trans hi

/-- A round's payload is that column's. -/
theorem rPay_row (hf : ∀ a ∈ C, ⊥ < f a) (hC : ∀ a ∈ C, a < 1073741824) (h : Row f g v ix tw i (from_ f C r))
    (hc : IsTop f C r c) : rPay v ix tw (ix2 i 0) = g c := by
  obtain ⟨k₀, ht, hk⟩ := round_one hf hC h hc
  rw [rPay_at, rMax_row hf h hc, rIdx_row hf hC h hc, ← ht]
  rw [Finset.sum_congr rfl fun k _ => if_congr (hk k) rfl rfl]
  exact (Finset.sum_ite_eq' Finset.univ k₀ _).trans (if_pos (Finset.mem_univ _))

/-- After a round the candidates hold the columns from the next one on. -/
theorem rNext_row (hf : ∀ a ∈ C, ⊥ < f a) (hC : ∀ a ∈ C, a < 1073741824) (h : Row f g v ix tw i (from_ f C r))
    (hc : IsTop f C r c) : Row f g (rNext ix v) ix tw i (from_ f C (r + 1)) := by
  refine round_next hC h hc (fun k hk => ?_) (fun k hk => ?_)
  · rw [rNext_at, rMax_row hf h hc, rIdx_row hf hC h hc]; exact if_pos hk
  · rw [rNext_at, rMax_row hf h hc, rIdx_row hf hC h hc]; exact if_neg hk

/-- After `r` rounds the candidates hold the columns from rank `r` on. -/
theorem rIter_row (hf : ∀ a ∈ C, ⊥ < f a) (hC : ∀ a ∈ C, a < 1073741824) (h : Row f g v ix tw i C) :
    ∀ r, r ≤ C.card → Row f g (rIter ix v r) ix tw i (from_ f C r)
  | 0, _ => by rw [from_zero]; exact h
  | r + 1, hr => by
    obtain ⟨c, hc⟩ := exists_isTop f (C := C) (j := r) hr
    exact rNext_row hf hC (rIter_row hf hC h r (Nat.le_of_succ_le hr)) hc

/-- What eight rounds leave at a row: the first eight columns' scores, words and payloads. -/
theorem eight_row (hf : ∀ a ∈ C, ⊥ < f a) (hC : ∀ a ∈ C, a < 1073741824) (h8 : 8 ≤ C.card) (h : Row f g v ix tw i C)
    (j : Fin 8) (hc : IsTop f C j.val c) :
    (eight v ix tw).1 (ix2 i j) = f c ∧ (eight v ix tw).2.1 (ix2 i j) = BitVec.ofNat 32 c ∧ (eight v ix tw).2.2 (ix2 i j) = g c := by
  have hj := rIter_row hf hC h j.val (le_trans (le_of_lt j.isLt) h8)
  unfold eight
  dsimp only
  rw [cols_at, cols_at, cols_at]
  exact ⟨rMax_row hf hj hc, rIdx_row hf hC hj hc, rPay_row hf hC hj hc⟩

end Cert.KernelIdeal.Two

end
-- ==== Proof.Score.lean ====
module

public import Idealize.ShloMosaic.Lib.Pointwise
public import Idealize.ShloMosaic.Lib.ValueIdx

@[expose] public section

noncomputable section

/-!
The score of a memory row against a query at ideal floats: the two weighted inner products of normalised rows and the weighted
time weight. A normalised row is finite, so a score is −∞ exactly when the time weight is.
-/

namespace Cert.Select

open Idealize.ShloMosaic

/-- An entry of a row divided by the row's length plus the small constant. -/
def unitRow (x : Fin 128 → EReal) (d : Fin 128) : EReal :=
  Ideal.div (x d) (Ideal.sqrt (∑ e, x e * x e) + Ideal.ofBits .f32 841731191#32)

/-- The score: `a` and `b` are the normalised queries, `p` and `q` the memory rows, `w` the time weight. -/
def score (a b p q : Fin 128 → EReal) (w : EReal) : EReal :=
  Ideal.ofBits .f32 1056964608#32 * (∑ d, a d * unitRow p d) + Ideal.ofBits .f32 1050253722#32 * (∑ d, b d * unitRow q d)
    + Ideal.ofBits .f32 1045220557#32 * w

/-- A square is not negative. -/
theorem mul_self_nonneg (x : EReal) : 0 ≤ x * x := by
  rcases le_total 0 x with h | h
  · exact EReal.mul_nonneg h h
  · exact EReal.mul_nonneg_iff.mpr (Or.inr ⟨h, h⟩)

/-- A value that is a real number. -/
def Fin' (x : EReal) : Prop := ∃ r : ℝ, x = (r : EReal)

theorem Fin'.mul {x y : EReal} : Fin' x → Fin' y → Fin' (x * y) := by
  rintro ⟨a, rfl⟩ ⟨b, rfl⟩; exact ⟨a * b, (EReal.coe_mul a b).symm⟩

theorem Fin'.add {x y : EReal} : Fin' x → Fin' y → Fin' (x + y) := by
  rintro ⟨a, rfl⟩ ⟨b, rfl⟩; exact ⟨a + b, (EReal.coe_add a b).symm⟩

theorem Fin'.sum {K : Type} (s : Finset K) {f : K → EReal} (h : ∀ k, Fin' (f k)) : Fin' (∑ k ∈ s, f k) := by
  classical
  induction s using Finset.induction_on with
  | empty => exact ⟨0, by simp⟩
  | insert a s ha ih => rw [Finset.sum_insert ha]; exact (h a).add ih

/-- The small constant is a positive real. -/
theorem eps_pos : ∃ r : ℝ, 0 < r ∧ Ideal.ofBits .f32 841731191#32 = (r : EReal) := by
  refine ⟨_, ?_, by simp [Ideal.ofBits, Ideal.ieee]; rfl⟩
  positivity

theorem half_fin : Fin' (Ideal.ofBits .f32 1056964608#32) := ⟨_, by simp [Ideal.ofBits, Ideal.ieee]; rfl⟩
theorem third_fin : Fin' (Ideal.ofBits .f32 1050253722#32) := ⟨_, by simp [Ideal.ofBits, Ideal.ieee]; rfl⟩
theorem fifth_pos : ∃ r : ℝ, 0 < r ∧ Ideal.ofBits .f32 1045220557#32 = (r : EReal) := by
  refine ⟨_, ?_, by simp [Ideal.ofBits, Ideal.ieee]; rfl⟩
  positivity

/-- A normalised entry is a real number whatever the row holds. -/
theorem unitRow_fin (x : Fin 128 → EReal) (d : Fin 128) : Fin' (unitRow x d) := by
  obtain ⟨ε, hε, he⟩ := eps_pos
  have hs : 0 ≤ ∑ e, x e * x e := Finset.sum_nonneg fun e _ => mul_self_nonneg (x e)
  have hx : x d * x d ≤ ∑ e, x e * x e := Finset.single_le_sum (f := fun e => x e * x e) (fun e _ => mul_self_nonneg (x e)) (Finset.mem_univ d)
  unfold unitRow
  rw [he]
  generalize (∑ e, x e * x e) = s at hs hx
  induction s with
  | bot => exact absurd hs (by simp)
  | top =>
    refine ⟨0, ?_⟩
    rw [Ideal.sqrt_top, EReal.top_add_coe]
    simp [Ideal.div]
  | coe s =>
    have hs' : 0 ≤ s := by exact_mod_cast hs
    rw [Ideal.sqrt_coe, if_neg (not_lt.mpr hs'), ← EReal.coe_add]
    have hD : 0 < Real.sqrt s + ε := by positivity
    generalize Real.sqrt s + ε = D at hD
    have hD' : (D : EReal) ≠ 0 := by exact_mod_cast hD.ne'
    generalize x d = y at hx
    induction y with
    | bot => simp at hx
    | top => simp at hx
    | coe y => exact ⟨y * D⁻¹, by simp [Ideal.div, hD.ne', EReal.coe_inv]⟩

/-- A score whose queries are real and whose time weight is above −∞ is above −∞. -/
theorem score_bot {a b : Fin 128 → EReal} (p q : Fin 128 → EReal) {w : EReal} (ha : ∀ d, Fin' (a d)) (hb : ∀ d, Fin' (b d)) (hw : ⊥ < w) :
    ⊥ < score a b p q w := by
  unfold score
  obtain ⟨r, hr⟩ := (half_fin.mul (Fin'.sum Finset.univ fun d => (ha d).mul (unitRow_fin p d))).add
    (third_fin.mul (Fin'.sum Finset.univ fun d => (hb d).mul (unitRow_fin q d)))
  obtain ⟨f, hf, he⟩ := fifth_pos
  rw [hr, he]
  induction w with
  | bot => exact absurd hw (lt_irrefl _)
  | top => rw [EReal.coe_mul_top_of_pos hf]; simp
  | coe w => rw [← EReal.coe_mul, ← EReal.coe_add]; exact EReal.bot_lt_coe _

end Cert.Select

end
-- ==== Proof.IBlocks.lean ====
module

public import proofs.«01_k».proof.Proof.IRead
public import proofs.«01_k».proof.Proof.Score
public import proofs.«01_k».proof.Proof.ILaunch

@[expose] public section

set_option maxRecDepth 16384

noncomputable section

/-!
The second launch's value: the tile's blocks read at the arrays, the invariant of the running eight and the result arrays.
-/

namespace Cert.KernelIdeal.Two

open Cert.KernelIdeal.Gen Cert.Select
open Idealize.ShloMosaic Idealize.ShloMosaic.TcCoe

variable (V : (c : Dev nD) → (b : Ref sig .tc) → Buf (Elt Ideal) ((c : Thread nD τ).loc b))

/-- The first query block is the whole array. -/
theorem blk_0 (c : Dev nD) (t : Fin cfg1.N) (i : Fin 1024) (d : Fin 128) :
    (iblk1 V c 0 t : FVec Ideal S1024x128 .f32) (ix2 i d) = (V c main_v2_1 : FVec Ideal S1024x128 .f32) (ix2 i d) := by
  unfold iblk1
  rw [View.read_apply]
  have h : ((cfg1.win 0).blk t).view.emb (ix2 i d) = ix2 i d := by
    funext a
    apply Fin.ext
    match a with
    | ⟨0, _⟩ => exact (Pipeline.Window.rect_emb_val_of_index_zero win1_0 t 0 rfl _)
    | ⟨1, _⟩ => exact (Pipeline.Window.rect_emb_val_of_index_zero win1_0 t 1 rfl _)
  rw [h]
  rfl

/-- The second query block is the whole array. -/
theorem blk_1 (c : Dev nD) (t : Fin cfg1.N) (i : Fin 1024) (d : Fin 128) :
    (iblk1 V c 1 t : FVec Ideal S1024x128 .f32) (ix2 i d) = (V c main_v2_2 : FVec Ideal S1024x128 .f32) (ix2 i d) := by
  unfold iblk1
  rw [View.read_apply]
  have h : ((cfg1.win 1).blk t).view.emb (ix2 i d) = ix2 i d := by
    funext a
    apply Fin.ext
    match a with
    | ⟨0, _⟩ => exact (Pipeline.Window.rect_emb_val_of_index_zero win1_1 t 0 rfl _)
    | ⟨1, _⟩ => exact (Pipeline.Window.rect_emb_val_of_index_zero win1_1 t 1 rfl _)
  rw [h]
  rfl

theorem index_2 : ∀ t : Fin cfg1.N, win1_2.index t 0 = t.val ∧ win1_2.index t 1 = 0 :=
  (by decide +kernel : ∀ t : Fin grid1.N, _)
theorem index_3 : ∀ t : Fin cfg1.N, win1_3.index t 0 = t.val ∧ win1_3.index t 1 = 0 :=
  (by decide +kernel : ∀ t : Fin grid1.N, _)
theorem index_4 : ∀ t : Fin cfg1.N, win1_4.index t 0 = t.val ∧ win1_4.index t 1 = 0 ∧ win1_4.index t 2 = 0 :=
  (by decide +kernel : ∀ t : Fin grid1.N, _)

/-- Row `y` of the content block at a tile. -/
theorem blk_2 (c : Dev nD) (t : Fin cfg1.N) (y : Fin 2000) (d : Fin 128) (h : 2000 * t.val + y.val < 100000) :
    (iblk1 V c 2 t : FVec Ideal S2000x128 .f32) (ix2 y d) = (V c main_v9 : FVec Ideal S100000x128 .f32) (ix2 ⟨2000 * t.val + y.val, h⟩ d) := by
  unfold iblk1
  rw [View.read_apply]
  have h : ((cfg1.win 2).blk t).view.emb (ix2 y d) = ix2 ⟨2000 * t.val + y.val, h⟩ d := by
    funext a
    apply Fin.ext
    match a with
    | ⟨0, _⟩ =>
      refine (Pipeline.Window.rect_emb_val win1_2 t _ 0).trans ?_
      rw [(index_2 t).1]
      show t.val * 2000 + y.val = 2000 * t.val + y.val
      omega
    | ⟨1, _⟩ => exact (Pipeline.Window.rect_emb_val_of_index_zero win1_2 t 1 (index_2 t).2 _)
  rw [h]
  rfl

/-- Row `y` of the context block at a tile. -/
theorem blk_3 (c : Dev nD) (t : Fin cfg1.N) (y : Fin 2000) (d : Fin 128) (h : 2000 * t.val + y.val < 100000) :
    (iblk1 V c 3 t : FVec Ideal S2000x128 .f32) (ix2 y d) = (V c main_v16 : FVec Ideal S100000x128 .f32) (ix2 ⟨2000 * t.val + y.val, h⟩ d) := by
  unfold iblk1
  rw [View.read_apply]
  have h : ((cfg1.win 3).blk t).view.emb (ix2 y d) = ix2 ⟨2000 * t.val + y.val, h⟩ d := by
    funext a
    apply Fin.ext
    match a with
    | ⟨0, _⟩ =>
      refine (Pipeline.Window.rect_emb_val win1_3 t _ 0).trans ?_
      rw [(index_3 t).1]
      show t.val * 2000 + y.val = 2000 * t.val + y.val
      omega
    | ⟨1, _⟩ => exact (Pipeline.Window.rect_emb_val_of_index_zero win1_3 t 1 (index_3 t).2 _)
  rw [h]
  rfl

/-- Entry `y` of the time-weight block at a tile. -/
theorem blk_4 (c : Dev nD) (t : Fin cfg1.N) (y : Fin 2000) (h : t.val < 50) :
    (iblk1 V c 4 t : FVec Ideal S1x1x2000 .f32) (ix3 0 0 y) = (V c main_v25 : FVec Ideal S50x1x2000 .f32) (ix3 ⟨t.val, h⟩ 0 y) := by
  unfold iblk1
  rw [View.read_apply]
  have h : ((cfg1.win 4).blk t).view.emb (ix3 0 0 y) = ix3 ⟨t.val, h⟩ 0 y := by
    funext a
    apply Fin.ext
    match a with
    | ⟨0, _⟩ =>
      refine (Pipeline.Window.rect_emb_val win1_4 t _ 0).trans ?_
      rw [(index_4 t).1]
      show t.val * 1 + 0 = t.val
      omega
    | ⟨1, _⟩ => exact (Pipeline.Window.rect_emb_val_of_index_zero win1_4 t 1 (index_4 t).2.1 _)
    | ⟨2, _⟩ => exact (Pipeline.Window.rect_emb_val_of_index_zero win1_4 t 2 (index_4 t).2.2 _)
  rw [h]
  rfl

end Cert.KernelIdeal.Two

end
-- ==== Proof.IValue.lean ====
module

public import proofs.«01_k».proof.Proof.IBlocks

@[expose] public section

set_option maxRecDepth 16384

noncomputable section

/-!
The invariant of the running eight over the tiles, at a row of queries.
-/

namespace Cert.KernelIdeal.Two

open Cert.KernelIdeal.Gen Cert.Select
open Idealize.ShloMosaic Idealize.ShloMosaic.TcCoe

/-- A candidate's score at a row: the first eight are the running ones, the others the tile's. -/
theorem candV_at (x0 x1 : FVec Ideal S1024x128 .f32) (x2 x3 : FVec Ideal S2000x128 .f32) (x4 : FVec Ideal S1x1x2000 .f32)
    (p : St Ideal) (i : Fin 1024) (k : Fin 2008) :
    candV x0 x1 x2 x3 x4 p (ix2 i k) = if h : k.val < 8 then p.1 (ix2 i ⟨k.val, h⟩)
      else score (fun d => x0 (ix2 i d)) (fun d => x1 (ix2 i d)) (fun d => x2 (ix2 ⟨k.val - 8, by omega⟩ d)) (fun d => x3 (ix2 ⟨k.val - 8, by omega⟩ d))
        (x4 (ix3 0 0 ⟨k.val - 8, by omega⟩)) := by
  unfold candV k1_pay13 k1_pay12 k1_pay11
  pointwise
  rfl

/-- A candidate's column word. -/
theorem candI_at (n : BitVec 32) (q : IVec S1024x8 32) (i : Fin 1024) (k : Fin 2008) :
    k1_pay14 (F := Ideal) n q (ix2 i k) = if h : k.val < 8 then q (ix2 i ⟨k.val, h⟩)
      else IntOp.addi (Scalar.muli n 2000#32) (BitVec.ofNat 32 (k.val - 8)) := by
  unfold k1_pay14
  pointwise

/-- A candidate's time weight. -/
theorem candT_at (x4 : FVec Ideal S1x1x2000 .f32) (q : FVec Ideal S1024x8 .f32) (i : Fin 1024) (k : Fin 2008) :
    k1_pay15 (k1_pay11 x4) q (ix2 i k) = if h : k.val < 8 then q (ix2 i ⟨k.val, h⟩) else x4 (ix3 0 0 ⟨k.val - 8, by omega⟩) := by
  unfold k1_pay15 k1_pay11
  pointwise

/-- A row of eight as a sequence. -/
def row8 {α : Type} (z : α) (x : S1024x8.Idx → α) (i : Fin 1024) (j : ℕ) : α := if h : j < 8 then x (ix2 i ⟨j, h⟩) else z

/-- A tile keeps the invariant: the running eight after it are the first eight of the columns so far. -/
theorem step_kept {f g : ℕ → EReal} {n : ℕ} (w : BitVec 32) (x0 x1 : FVec Ideal S1024x128 .f32) (x2 x3 : FVec Ideal S2000x128 .f32)
    (x4 : FVec Ideal S1x1x2000 .f32) (p : St Ideal) (i : Fin 1024)
    (hK : Kept f g n (row8 0 p.1 i) (row8 0 p.2.1 i) (row8 0 p.2.2 i))
    (hs : ∀ y : Fin 2000, score (fun d => x0 (ix2 i d)) (fun d => x1 (ix2 i d)) (fun d => x2 (ix2 y d)) (fun d => x3 (ix2 y d))
      (x4 (ix3 0 0 y)) = f (n + y.val) ∧ x4 (ix3 0 0 y) = g (n + y.val))
    (hw : Scalar.muli w 2000#32 = BitVec.ofNat 32 n) (hN : n + 2000 ≤ 100000) (hf : ∀ a, a < 100000 → ⊥ < f a) :
    Kept f g (n + 2000) (row8 0 (step w x0 x1 x2 x3 x4 p).1 i) (row8 0 (step w x0 x1 x2 x3 x4 p).2.1 i) (row8 0 (step w x0 x1 x2 x3 x4 p).2.2 i) := by
  obtain ⟨C, hC, h8, hH, hT⟩ := hK.candidates (N := 100000) (v := fun k => candV x0 x1 x2 x3 x4 p (ix2 i k))
    (i := fun k => k1_pay14 (F := Ideal) w p.2.1 (ix2 i k)) (t := fun k => k1_pay15 (k1_pay11 x4) p.2.2 (ix2 i k))
    (fun k hk => by
      rw [candV_at, candI_at, candT_at]
      simp only [dif_pos hk, row8]
      exact ⟨trivial, trivial, trivial⟩)
    (fun k hk => by
      rw [candV_at, candI_at, candT_at]
      simp only [dif_neg (not_lt.mpr hk)]
      obtain ⟨e1, e2⟩ := hs ⟨k.val - 8, by omega⟩
      refine ⟨e1, ?_, e2⟩
      rw [hw]
      exact (BitVec.ofNat_add _ _).symm)
    hN
  refine Or.inr ?_
  have hp : ∀ j : ℕ, ∃ c, j < 8 → IsTop f C j c := fun j => by
    by_cases hj : j < 8
    · obtain ⟨c, hc⟩ := exists_isTop f (C := C) (j := j) (lt_of_lt_of_le hj h8)
      exact ⟨c, fun _ => hc⟩
    · exact ⟨0, fun h => absurd h hj⟩
  choose q hq using hp
  refine ⟨q, fun j hj => ?_⟩
  have hr := eight_row (f := f) (g := g) (fun a ha => hf a (hC a ha)) (fun a ha => lt_trans (hC a ha) (by norm_num)) h8 hH ⟨j, hj⟩ (hq j hj)
  simp only [row8, dif_pos hj]
  exact ⟨hT j hj _ (hq j hj), hr⟩

/-- Before any tile the running eight are −∞. -/
theorem st0_kept (f g : ℕ → EReal) (i : Fin 1024) : Kept f g 0 (row8 0 (st0 (F := Ideal)).1 i) (row8 0 (st0 (F := Ideal)).2.1 i) (row8 0 (st0 (F := Ideal)).2.2 i) := by
  refine Or.inl ⟨rfl, fun j hj => ?_⟩
  simp only [row8, dif_pos hj]
  exact negInf_eq

variable (V : (c : Dev nD) → (b : Ref sig .tc) → Buf (Elt Ideal) ((c : Thread nD τ).loc b))

/-- A memory column's time weight at entry. -/
def colTw (c : Dev nD) (n : ℕ) : EReal :=
  if h : n < 100000 then (V c main_v25 : FVec Ideal S50x1x2000 .f32) (ix3 ⟨n / 2000, by omega⟩ 0 ⟨n % 2000, by omega⟩) else 0

/-- A memory column's score against row `i`'s queries at entry. -/
def colScore (c : Dev nD) (i : Fin 1024) (n : ℕ) : EReal :=
  if h : n < 100000 then score (fun d => (V c main_v2_1 : FVec Ideal S1024x128 .f32) (ix2 i d)) (fun d => (V c main_v2_2 : FVec Ideal S1024x128 .f32) (ix2 i d))
    (fun d => (V c main_v9 : FVec Ideal S100000x128 .f32) (ix2 ⟨n, h⟩ d)) (fun d => (V c main_v16 : FVec Ideal S100000x128 .f32) (ix2 ⟨n, h⟩ d)) (colTw V c n) else 0

/-- The invariant at every tile. -/
theorem tiles_kept (c : Dev nD) (i : Fin 1024) (hf : ∀ a, a < 100000 → ⊥ < colScore V c i a) :
    ∀ (n : ℕ) (hn : n ≤ cfg1.N), Kept (colScore V c i) (colTw V c) (2000 * n)
      (row8 0 (tiles V c n hn).1 i) (row8 0 (tiles V c n hn).2.1 i) (row8 0 (tiles V c n hn).2.2 i)
  | 0, _ => st0_kept _ _ i
  | n + 1, hn => by
    have ih := tiles_kept c i hf n (Nat.le_of_lt hn)
    have h50 : n < 50 := hn
    have e : 2000 * (n + 1) = 2000 * n + 2000 := by omega
    rw [e]
    refine step_kept _ _ _ _ _ _ _ i ih (fun y => ?_) ?_ (by omega) hf
    · have hy := y.isLt
      have hT : (iblk1 V c 4 ⟨n, hn⟩ : FVec Ideal S1x1x2000 .f32) (ix3 0 0 y) = colTw V c (2000 * n + y.val) := by
        rw [blk_4 V c ⟨n, hn⟩ y h50]
        unfold colTw
        rw [dif_pos (by omega)]
        congr 1
        congr 1
        · exact Fin.ext (by show n = (2000 * n + y.val) / 2000; omega)
        · exact Fin.ext (by show y.val = (2000 * n + y.val) % 2000; omega)
      refine ⟨?_, hT⟩
      unfold colScore
      rw [dif_pos (by omega), ← hT]
      congr 1
      · funext d; exact blk_0 V c ⟨n, hn⟩ i d
      · funext d; exact blk_1 V c ⟨n, hn⟩ i d
      · funext d; exact blk_2 V c ⟨n, hn⟩ y d (by show 2000 * n + y.val < 100000; omega)
      · funext d; exact blk_3 V c ⟨n, hn⟩ y d (by show 2000 * n + y.val < 100000; omega)
    · have hc : (grid1.coords (⟨n, hn⟩ : Fin cfg1.N) 0).val = n := by
        rw [show (grid1.coords (⟨n, hn⟩ : Fin cfg1.N) 0).val = n / 1 % 50 from Pipeline.Grid.coords_val ⟨n, hn⟩ 0 (by decide) rfl]
        omega
      rw [hc]
      show BitVec.ofNat 32 n * BitVec.ofNat 32 2000 = _
      rw [← BitVec.ofNat_mul, Nat.mul_comm]

/-- The last point writes the results back. -/
abbrev lastPt : Fin cfg1.N := ⟨49, lt_of_lt_of_eq (by decide) N_1.symm⟩

/-- The block of result window 5 is its whole array. -/
theorem mem_blk_5 (t : Fin cfg1.N) (i : S1024x8.Idx) : i ∈ ((cfg1.win 5).blk t).view.set := by
  show i ∈ ((View.whole main_v26_0).slice (win1_5.rect t)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The scores the second launch returns are those the last tile leaves. -/
theorem arr_5 (c : Dev nD) : (dat1 V c).arrAt 5 cfg1.N = ((tiles V c cfg1.N (le_refl _)).1 : FVec Ideal S1024x8 .f32) := by
  refine (dat1 V c).arrAt_eq_of_cover 5 _ (fun t hf => ?_) (fun i => ⟨lastPt, (flush1_5 _).mpr rfl, mem_blk_5 lastPt i⟩)
  funext y
  have e : ((cfg1.win 5).blk t).view.emb y = (cfg1.win 5).xinj (grid1.coords t) y := by
    funext a
    apply Fin.ext
    match a with
    | ⟨0, _⟩ => exact Pipeline.Window.rect_emb_val_of_index_zero win1_5 t 0 rfl y
    | ⟨1, _⟩ => exact Pipeline.Window.rect_emb_val_of_index_zero win1_5 t 1 rfl y
  show (dat1 V c).after 5 t ((cfg1.win 5).xinj (grid1.coords t) y) = (tiles V c cfg1.N (le_refl _)).1 (((cfg1.win 5).blk t).view.emb y)
  rw [e, after1_5, outAt1_eq V c t ((flush1_5 t).mp hf)]

/-- The block of result window 6 is its whole array. -/
theorem mem_blk_6 (t : Fin cfg1.N) (i : S1024x8.Idx) : i ∈ ((cfg1.win 6).blk t).view.set := by
  show i ∈ ((View.whole main_v26_1).slice (win1_6.rect t)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The column words the second launch returns are those the last tile leaves. -/
theorem arr_6 (c : Dev nD) : (dat1 V c).arrAt 6 cfg1.N = ((tiles V c cfg1.N (le_refl _)).2.1 : IVec S1024x8 32) := by
  refine (dat1 V c).arrAt_eq_of_cover 6 _ (fun t hf => ?_) (fun i => ⟨lastPt, (flush1_6 _).mpr rfl, mem_blk_6 lastPt i⟩)
  funext y
  have e : ((cfg1.win 6).blk t).view.emb y = (cfg1.win 6).xinj (grid1.coords t) y := by
    funext a
    apply Fin.ext
    match a with
    | ⟨0, _⟩ => exact Pipeline.Window.rect_emb_val_of_index_zero win1_6 t 0 rfl y
    | ⟨1, _⟩ => exact Pipeline.Window.rect_emb_val_of_index_zero win1_6 t 1 rfl y
  show (dat1 V c).after 6 t ((cfg1.win 6).xinj (grid1.coords t) y) = (tiles V c cfg1.N (le_refl _)).2.1 (((cfg1.win 6).blk t).view.emb y)
  rw [e, after1_6, outAt1_eq V c t ((flush1_6 t).mp hf)]

/-- The block of result window 7 is its whole array. -/
theorem mem_blk_7 (t : Fin cfg1.N) (i : S1024x8.Idx) : i ∈ ((cfg1.win 7).blk t).view.set := by
  show i ∈ ((View.whole main_v26_2).slice (win1_7.rect t)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The time weights the second launch returns are those the last tile leaves. -/
theorem arr_7 (c : Dev nD) : (dat1 V c).arrAt 7 cfg1.N = ((tiles V c cfg1.N (le_refl _)).2.2 : FVec Ideal S1024x8 .f32) := by
  refine (dat1 V c).arrAt_eq_of_cover 7 _ (fun t hf => ?_) (fun i => ⟨lastPt, (flush1_7 _).mpr rfl, mem_blk_7 lastPt i⟩)
  funext y
  have e : ((cfg1.win 7).blk t).view.emb y = (cfg1.win 7).xinj (grid1.coords t) y := by
    funext a
    apply Fin.ext
    match a with
    | ⟨0, _⟩ => exact Pipeline.Window.rect_emb_val_of_index_zero win1_7 t 0 rfl y
    | ⟨1, _⟩ => exact Pipeline.Window.rect_emb_val_of_index_zero win1_7 t 1 rfl y
  show (dat1 V c).after 7 t ((cfg1.win 7).xinj (grid1.coords t) y) = (tiles V c cfg1.N (le_refl _)).2.2 (((cfg1.win 7).blk t).view.emb y)
  rw [e, after1_7, outAt1_eq V c t ((flush1_7 t).mp hf)]

end Cert.KernelIdeal.Two

end
-- ==== Proof.IPrep.lean ====
module

public import proofs.«01_k».proof.Proof.IRead
public import proofs.«01_k».proof.Proof.Score
public import proofs.«01_k».proof.Proof.ILaunch

@[expose] public section

set_option maxRecDepth 16384

noncomputable section

/-!
The first launch's value: its blocks are whole arrays, so its results are its payloads of the arrays; the normalised queries
are read entry by entry.
-/

namespace Cert.KernelIdeal.Two

open Cert.KernelIdeal.Gen Cert.Select
open Idealize.ShloMosaic Idealize.ShloMosaic.TcCoe

variable (V : (c : Dev nD) → (b : Ref sig .tc) → Buf (Elt Ideal) ((c : Thread nD τ).loc b))

/-- The context block is the whole array. -/
theorem pblk_0 (c : Dev nD) (t : Fin cfg0.N) : (iblk0 V c 0 t : FVec Ideal S1024x128 .f32) = (V c main_arg2 : FVec Ideal S1024x128 .f32) := by
  unfold iblk0
  funext y
  rw [View.read_apply]
  have h : ((cfg0.win 0).blk t).view.emb y = y := funext fun a => Fin.ext (match a with
    | ⟨0, _⟩ => Pipeline.Window.rect_emb_val_of_index_zero win0_0 t 0 rfl _
    | ⟨1, _⟩ => Pipeline.Window.rect_emb_val_of_index_zero win0_0 t 1 rfl _)
  rw [h]
  rfl

/-- The first layer's matrix block is the whole array. -/
theorem pblk_1 (c : Dev nD) (t : Fin cfg0.N) : (iblk0 V c 1 t : FVec Ideal S128x128 .f32) = (V c main_arg14 : FVec Ideal S128x128 .f32) := by
  unfold iblk0
  funext y
  rw [View.read_apply]
  have h : ((cfg0.win 1).blk t).view.emb y = y := funext fun a => Fin.ext (match a with
    | ⟨0, _⟩ => Pipeline.Window.rect_emb_val_of_index_zero win0_1 t 0 rfl _
    | ⟨1, _⟩ => Pipeline.Window.rect_emb_val_of_index_zero win0_1 t 1 rfl _)
  rw [h]
  rfl

/-- The first layer's bias block is the whole array. -/
theorem pblk_2 (c : Dev nD) (t : Fin cfg0.N) : (iblk0 V c 2 t : FVec Ideal S1x128 .f32) = (V c main_v0 : FVec Ideal S1x128 .f32) := by
  unfold iblk0
  funext y
  rw [View.read_apply]
  have h : ((cfg0.win 2).blk t).view.emb y = y := funext fun a => Fin.ext (match a with
    | ⟨0, _⟩ => Pipeline.Window.rect_emb_val_of_index_zero win0_2 t 0 rfl _
    | ⟨1, _⟩ => Pipeline.Window.rect_emb_val_of_index_zero win0_2 t 1 rfl _)
  rw [h]
  rfl

/-- The second layer's matrix block is the whole array. -/
theorem pblk_3 (c : Dev nD) (t : Fin cfg0.N) : (iblk0 V c 3 t : FVec Ideal S128x128 .f32) = (V c main_arg16 : FVec Ideal S128x128 .f32) := by
  unfold iblk0
  funext y
  rw [View.read_apply]
  have h : ((cfg0.win 3).blk t).view.emb y = y := funext fun a => Fin.ext (match a with
    | ⟨0, _⟩ => Pipeline.Window.rect_emb_val_of_index_zero win0_3 t 0 rfl _
    | ⟨1, _⟩ => Pipeline.Window.rect_emb_val_of_index_zero win0_3 t 1 rfl _)
  rw [h]
  rfl

/-- The second layer's bias block is the whole array. -/
theorem pblk_4 (c : Dev nD) (t : Fin cfg0.N) : (iblk0 V c 4 t : FVec Ideal S1x128 .f32) = (V c main_v1 : FVec Ideal S1x128 .f32) := by
  unfold iblk0
  funext y
  rw [View.read_apply]
  have h : ((cfg0.win 4).blk t).view.emb y = y := funext fun a => Fin.ext (match a with
    | ⟨0, _⟩ => Pipeline.Window.rect_emb_val_of_index_zero win0_4 t 0 rfl _
    | ⟨1, _⟩ => Pipeline.Window.rect_emb_val_of_index_zero win0_4 t 1 rfl _)
  rw [h]
  rfl

/-- The first query block is the whole array. -/
theorem pblk_5 (c : Dev nD) (t : Fin cfg0.N) : (iblk0 V c 5 t : FVec Ideal S1024x128 .f32) = (V c main_arg3 : FVec Ideal S1024x128 .f32) := by
  unfold iblk0
  funext y
  rw [View.read_apply]
  have h : ((cfg0.win 5).blk t).view.emb y = y := funext fun a => Fin.ext (match a with
    | ⟨0, _⟩ => Pipeline.Window.rect_emb_val_of_index_zero win0_5 t 0 rfl _
    | ⟨1, _⟩ => Pipeline.Window.rect_emb_val_of_index_zero win0_5 t 1 rfl _)
  rw [h]
  rfl

/-- The second query block is the whole array. -/
theorem pblk_6 (c : Dev nD) (t : Fin cfg0.N) : (iblk0 V c 6 t : FVec Ideal S1024x128 .f32) = (V c main_arg4 : FVec Ideal S1024x128 .f32) := by
  unfold iblk0
  funext y
  rw [View.read_apply]
  have h : ((cfg0.win 6).blk t).view.emb y = y := funext fun a => Fin.ext (match a with
    | ⟨0, _⟩ => Pipeline.Window.rect_emb_val_of_index_zero win0_6 t 0 rfl _
    | ⟨1, _⟩ => Pipeline.Window.rect_emb_val_of_index_zero win0_6 t 1 rfl _)
  rw [h]
  rfl

/-- The context encoding the first launch computes. -/
def encV (c : Dev nD) : FVec Ideal S1024x128 .f32 :=
  k0_pay2 (V c main_arg2 : FVec Ideal S1024x128 .f32) (V c main_arg14 : FVec Ideal S128x128 .f32) (V c main_v0 : FVec Ideal S1x128 .f32)
    (V c main_arg16 : FVec Ideal S128x128 .f32) (V c main_v1 : FVec Ideal S1x128 .f32)

/-- What the body leaves of the context encoding. -/
theorem leaves_7 (c : Dev nD) (t : Fin cfg0.N) : (dat0 V c).after 7 t = encV V c := by
  rw [after0_7]
  unfold out0_7
  rw [View.canon_unit_zero (S := S1024x128) off2_zero, View.ld_unit_zero (S := S1024x128) off2_zero, View.ld_unit_zero (S := S128x128) off2_zero,
    View.ld_unit_zero (S := S128x128) off2_zero, View.ld_unit_zero (S := S1x128) off2_zero, View.ld_unit_zero (S := S1x128) off2_zero,
    pblk_0, pblk_1, pblk_2, pblk_3, pblk_4]
  rfl

/-- What the body leaves of the first normalised queries. -/
theorem leaves_8 (c : Dev nD) (t : Fin cfg0.N) : (dat0 V c).after 8 t = k0_pay3 (V c main_arg3 : FVec Ideal S1024x128 .f32) := by
  rw [after0_8]
  unfold out0_8
  rw [View.canon_unit_zero (S := S1024x128) off2_zero, View.ld_unit_zero (S := S1024x128) off2_zero, pblk_5]

/-- What the body leaves of the second normalised queries. -/
theorem leaves_9 (c : Dev nD) (t : Fin cfg0.N) :
    (dat0 V c).after 9 t = k0_pay1 (V c main_arg4 : FVec Ideal S1024x128 .f32) (k0_pay4 (V c main_arg4 : FVec Ideal S1024x128 .f32)) := by
  rw [after0_9]
  unfold out0_9
  rw [View.canon_unit_zero (S := S1024x128) off2_zero, View.ld_unit_zero (S := S1024x128) off2_zero, pblk_6]

/-- The launch's only point. -/
abbrev onePt : Fin cfg0.N := ⟨0, by decide⟩

/-- The context encoding the first launch returns. -/
theorem parr_7 (c : Dev nD) : (dat0 V c).arrAt 7 cfg0.N = (encV V c : FVec Ideal S1024x128 .f32) := by
  refine (dat0 V c).arrAt_eq_of_cover 7 _ (fun t _ => ?_) (fun i => ⟨onePt, flush0_7 _, ?_⟩)
  · funext y
    have e : ((cfg0.win 7).blk t).view.emb y = (cfg0.win 7).xinj (grid0.coords t) y := funext fun a => Fin.ext (match a with
      | ⟨0, _⟩ => Pipeline.Window.rect_emb_val_of_index_zero win0_7 t 0 rfl y
      | ⟨1, _⟩ => Pipeline.Window.rect_emb_val_of_index_zero win0_7 t 1 rfl y)
    show (dat0 V c).after 7 t ((cfg0.win 7).xinj (grid0.coords t) y) = (encV V c : FVec Ideal S1024x128 .f32) (((cfg0.win 7).blk t).view.emb y)
    rw [e, leaves_7]
  · show i ∈ ((View.whole main_v2_0).slice (win0_7.rect onePt)).set
    rw [View.set_slice_whole, Rect.mem_set_unit]
    exact fun a => match a with
      | ⟨0, _⟩ => ⟨Nat.zero_le _, (i 0).isLt⟩
      | ⟨1, _⟩ => ⟨Nat.zero_le _, (i 1).isLt⟩

/-- The first normalised queries the first launch returns. -/
theorem parr_8 (c : Dev nD) : (dat0 V c).arrAt 8 cfg0.N = (k0_pay3 (V c main_arg3 : FVec Ideal S1024x128 .f32) : FVec Ideal S1024x128 .f32) := by
  refine (dat0 V c).arrAt_eq_of_cover 8 _ (fun t _ => ?_) (fun i => ⟨onePt, flush0_8 _, ?_⟩)
  · funext y
    have e : ((cfg0.win 8).blk t).view.emb y = (cfg0.win 8).xinj (grid0.coords t) y := funext fun a => Fin.ext (match a with
      | ⟨0, _⟩ => Pipeline.Window.rect_emb_val_of_index_zero win0_8 t 0 rfl y
      | ⟨1, _⟩ => Pipeline.Window.rect_emb_val_of_index_zero win0_8 t 1 rfl y)
    show (dat0 V c).after 8 t ((cfg0.win 8).xinj (grid0.coords t) y) = (k0_pay3 (V c main_arg3 : FVec Ideal S1024x128 .f32) : FVec Ideal S1024x128 .f32) (((cfg0.win 8).blk t).view.emb y)
    rw [e, leaves_8]
  · show i ∈ ((View.whole main_v2_1).slice (win0_8.rect onePt)).set
    rw [View.set_slice_whole, Rect.mem_set_unit]
    exact fun a => match a with
      | ⟨0, _⟩ => ⟨Nat.zero_le _, (i 0).isLt⟩
      | ⟨1, _⟩ => ⟨Nat.zero_le _, (i 1).isLt⟩

/-- The second normalised queries the first launch returns. -/
theorem parr_9 (c : Dev nD) : (dat0 V c).arrAt 9 cfg0.N = (k0_pay1 (V c main_arg4 : FVec Ideal S1024x128 .f32) (k0_pay4 (V c main_arg4 : FVec Ideal S1024x128 .f32)) : FVec Ideal S1024x128 .f32) := by
  refine (dat0 V c).arrAt_eq_of_cover 9 _ (fun t _ => ?_) (fun i => ⟨onePt, flush0_9 _, ?_⟩)
  · funext y
    have e : ((cfg0.win 9).blk t).view.emb y = (cfg0.win 9).xinj (grid0.coords t) y := funext fun a => Fin.ext (match a with
      | ⟨0, _⟩ => Pipeline.Window.rect_emb_val_of_index_zero win0_9 t 0 rfl y
      | ⟨1, _⟩ => Pipeline.Window.rect_emb_val_of_index_zero win0_9 t 1 rfl y)
    show (dat0 V c).after 9 t ((cfg0.win 9).xinj (grid0.coords t) y) = (k0_pay1 (V c main_arg4 : FVec Ideal S1024x128 .f32) (k0_pay4 (V c main_arg4 : FVec Ideal S1024x128 .f32)) : FVec Ideal S1024x128 .f32) (((cfg0.win 9).blk t).view.emb y)
    rw [e, leaves_9]
  · show i ∈ ((View.whole main_v2_2).slice (win0_9.rect onePt)).set
    rw [View.set_slice_whole, Rect.mem_set_unit]
    exact fun a => match a with
      | ⟨0, _⟩ => ⟨Nat.zero_le _, (i 0).isLt⟩
      | ⟨1, _⟩ => ⟨Nat.zero_le _, (i 1).isLt⟩

/-- A first normalised query's entry. -/
theorem pay3_at (x : FVec Ideal S1024x128 .f32) (i : Fin 1024) (d : Fin 128) : k0_pay3 (F := Ideal) x (ix2 i d) = unitRow (fun e => x (ix2 i e)) d := by
  unfold k0_pay3
  pointwise
  rfl

/-- A second normalised query's entry. -/
theorem pay1_at (x : FVec Ideal S1024x128 .f32) (i : Fin 1024) (d : Fin 128) : k0_pay1 (F := Ideal) x (k0_pay4 (F := Ideal) x) (ix2 i d) = unitRow (fun e => x (ix2 i e)) d := by
  unfold k0_pay1 k0_pay4
  pointwise
  rfl

end Cert.KernelIdeal.Two

end
-- ==== Proof.RValue.lean ====
module

public import proofs.«01_k».proof.Proof.Gen.ReferenceIdeal.Run
public import proofs.«01_k».proof.Proof.Select
public import proofs.«01_k».proof.Proof.Score

@[expose] public section

set_option maxRecDepth 16384

noncomputable section

/-!
The reference's results in closed form: the tables after the scatters, the scores, the first eight columns of a row and the
rows they select.
-/

namespace Cert.ReferenceIdeal.Value

open Cert.ReferenceIdeal Cert.ReferenceIdeal.Gen Cert.Select
open Idealize.ShloMosaic Idealize.ShloMosaic.TcCoe

variable {F : FTy → Type} [FloatOps F]

/-- The write positions, a negative one counted from the end. -/
def rIx (x5 : IVec S1024 32) : IVec S1024x1 32 :=
  broadcastInDim S1024x1 ![0] bcast_S1024_S1024x1_0 (select (cmpi .slt x5 (broadcastInDim S1024 ![] bcast_S_S1024 (constantI S_ 32 0#32)))
    (addi x5 (broadcastInDim S1024 ![] bcast_S_S1024 (constantI S_ 32 100000#32))) x5)

/-- A table of rows after the writes `u`. -/
def rTab (x : FVec F S100000x128 .f32) (x5 : IVec S1024 32) (u : FVec F S1024x128 .f32) : FVec F S100000x128 .f32 :=
  Host.scatter scatter_S100000x128_S1024x1_S1024x128_1_0_0_1 (fun _ b => b) x (rIx x5) u

/-- The time weights after the writes. -/
def rTw (x : FVec F S100000 .f32) (x5 : IVec S1024 32) : FVec F S100000 .f32 :=
  Host.scatter scatter_S100000_S1024x1_S1024_n_0_0_1 (fun _ b => b) x (rIx x5) (broadcastInDim S1024 ![] bcast_S_S1024 (constant S_ .f32 0x3F800000#32))

/-- The encoded context. -/
def rCtx (x2 : FVec F S1024x128 .f32) (x14 : FVec F S128x128 .f32) (x15 : FVec F S128 .f32) (x16 : FVec F S128x128 .f32) (x17 : FVec F S128 .f32) :
    FVec F S1024x128 .f32 :=
  addf (Host.dotGeneral dot_S1024x128_S128x128_S1024x128_1_0_0_1_n_n none (maximumf (addf (Host.dotGeneral dot_S1024x128_S128x128_S1024x128_1_0_0_1_n_n none x2 x14)
      (broadcastInDim S1024x128 ![0, 1] bcast_S1x128_S1024x128_0_1 (broadcastInDim S1x128 ![1] bcast_S128_S1x128_1 x15)))
      (broadcastInDim S1024x128 ![] bcast_S_S1024x128 (constant S_ .f32 0x00000000#32))) x16)
    (broadcastInDim S1024x128 ![0, 1] bcast_S1x128_S1024x128_0_1 (broadcastInDim S1x128 ![1] bcast_S128_S1x128_1 x17))

/-- A block of queries, every row normalised. -/
def rNq (q : FVec F S1024x128 .f32) : FVec F S1024x128 .f32 :=
  Host.divf q (broadcastInDim S1024x128 ![0, 1] bcast_S1024x1_S1024x128_0_1 (addf (Host.sqrt (broadcastInDim S1024x1 ![0] bcast_S1024_S1024x1_0
    (Host.reduceAdd (mulf q q) (constant S_ .f32 0x00000000#32) reducesTo_S1024x128_S1024_d1 h_S_)))
    (broadcastInDim S1024x1 ![] bcast_S_S1024x1 (constant S_ .f32 0x322BCC77#32))))

/-- A table, every row normalised. -/
def rNt (t : FVec F S100000x128 .f32) : FVec F S100000x128 .f32 :=
  Host.divf t (broadcastInDim S100000x128 ![0, 1] bcast_S100000x1_S100000x128_0_1 (addf (Host.sqrt (broadcastInDim S100000x1 ![0] bcast_S100000_S100000x1_0
    (Host.reduceAdd (mulf t t) (constant S_ .f32 0x00000000#32) reducesTo_S100000x128_S100000_d1 h_S_)))
    (broadcastInDim S100000x1 ![] bcast_S_S100000x1 (constant S_ .f32 0x322BCC77#32))))

/-- The similarities of queries and table rows. -/
def rSim (q : FVec F S1024x128 .f32) (t : FVec F S100000x128 .f32) : FVec F S1024x100000 .f32 :=
  Host.dotGeneral dot_S1024x128_S128x100000_S1024x100000_1_0_0_1_n_n none (rNq q) (transpose S128x100000 [1, 0] (rNt t) transposes_S100000x128_S128x100000_1_0)

/-- The scores. -/
def rScores (q qc : FVec F S1024x128 .f32) (mc mx : FVec F S100000x128 .f32) (mf : FVec F S100000 .f32) : FVec F S1024x100000 .f32 :=
  addf (addf (mulf (broadcastInDim S1024x100000 ![] bcast_S_S1024x100000 (constant S_ .f32 0x3F000000#32)) (rSim q mc))
      (mulf (broadcastInDim S1024x100000 ![] bcast_S_S1024x100000 (constant S_ .f32 0x3E99999A#32)) (rSim qc mx)))
    (broadcastInDim S1024x100000 ![0, 1] bcast_S1x100000_S1024x100000_0_1 (mulf (broadcastInDim S1x100000 ![] bcast_S_S1x100000 (constant S_ .f32 0x3E4CCCCD#32))
      (broadcastInDim S1x100000 ![1] bcast_S100000_S1x100000_1 mf)))

/-- The first eight scores of every row and their columns. -/
def rTop (s : FVec F S1024x100000 .f32) : FVec F S1024x8 .f32 × IVec S1024x8 32 :=
  Host.topK S1024x8 1 (FloatOps.cmpfTotal .gt) s sliceFits_S1024x100000_S1024x8

/-- The columns as read positions, a negative one counted from the end. -/
def rPos (ti : IVec S1024x8 32) : IVec S1024x8x1 32 :=
  broadcastInDim S1024x8x1 ![0, 1] bcast_S1024x8_S1024x8x1_0_1 (select (cmpi .slt ti (broadcastInDim S1024x8 ![] bcast_S_S1024x8 (constantI S_ 32 0#32)))
    (addi ti (broadcastInDim S1024x8 ![] bcast_S_S1024x8 (constantI S_ 32 100000#32))) ti)

variable (m : (ℓ : Loc nD τ sig) → Buf (Elt F) ℓ) (c : Dev nD)

/-- The content table after the writes. -/
def mMc : FVec F S100000x128 .f32 := rTab (m ((c.tc : Thread nD τ).loc main_arg6)) (m ((c.tc : Thread nD τ).loc main_arg5)) (m ((c.tc : Thread nD τ).loc main_arg0))
/-- The context table after the writes. -/
def mMx : FVec F S100000x128 .f32 := rTab (m ((c.tc : Thread nD τ).loc main_arg7)) (m ((c.tc : Thread nD τ).loc main_arg5))
  (rCtx (m ((c.tc : Thread nD τ).loc main_arg2)) (m ((c.tc : Thread nD τ).loc main_arg14)) (m ((c.tc : Thread nD τ).loc main_arg15))
    (m ((c.tc : Thread nD τ).loc main_arg16)) (m ((c.tc : Thread nD τ).loc main_arg17)))
/-- The time weights after the writes. -/
def mMf : FVec F S100000 .f32 := rTw (m ((c.tc : Thread nD τ).loc main_arg9)) (m ((c.tc : Thread nD τ).loc main_arg5))
/-- The selection. -/
def mTop : FVec F S1024x8 .f32 × IVec S1024x8 32 :=
  rTop (rScores (m ((c.tc : Thread nD τ).loc main_arg3)) (m ((c.tc : Thread nD τ).loc main_arg4)) (mMc m c) (mMx m c) (mMf m c))

/-- The scores returned. -/
theorem res_sim : res_main_values m c = (mTop m c).1 := rfl
/-- The rows returned. -/
theorem res_rows : res_main_v105 m c = Host.gather gather_S100000x128_S1024x8x1_S1024x8x128_2_0_n_n_0_2_1128 (mMc m c) (rPos (mTop m c).2) := rfl
/-- The time weights returned. -/
theorem res_tw : res_main_v112 m c = Host.gather gather_S100000_S1024x8x1_S1024x8_n_0_n_n_0_2_1 (mMf m c) (rPos (mTop m c).2) := rfl

/-- A score is that of the row against the normalised queries. -/
theorem rScores_at (q qc : FVec Ideal S1024x128 .f32) (mc mx : FVec Ideal S100000x128 .f32) (mf : FVec Ideal S100000 .f32) (i : Fin 1024) (n : Fin 100000) :
    rScores q qc mc mx mf (ix2 i n) = score (unitRow fun d => q (ix2 i d)) (unitRow fun d => qc (ix2 i d)) (fun d => mc (ix2 n d)) (fun d => mx (ix2 n d)) (mf (ix1 n)) := by
  unfold rScores rSim rNq rNt
  pointwise
  rfl

/-- A row's coordinate replaced. -/
theorem along_1 {A N : ℕ} (i : Fin A) (k n : Fin N) : (ix2 i k : (⟨2, ![A, N]⟩ : Shape).Idx).along 1 n = ix2 i n := by
  funext a
  match a with
  | ⟨0, _⟩ => rfl
  | ⟨1, _⟩ => rfl

/-- A stable sort of a pair along the rows, read at a position. -/
theorem sort2_at {A N : ℕ} {α β : Type} (cmp : α × β → α × β → BitVec 1) (x : (⟨2, ![A, N]⟩ : Shape).Idx → α) (y : (⟨2, ![A, N]⟩ : Shape).Idx → β)
    (i : Fin A) (k : Fin N) (R : Fin N → Fin N → Bool) (hR : ∀ a b, (cmp (x (ix2 i a), y (ix2 i a)) (x (ix2 i b), y (ix2 i b)) == 1#1) = R a b) :
    (Host.sort2 ⟨2, ![A, N]⟩ 1 cmp x y).1 (ix2 i k) = x (ix2 i (sortedFrom R k)) ∧ (Host.sort2 ⟨2, ![A, N]⟩ 1 cmp x y).2 (ix2 i k) = y (ix2 i (sortedFrom R k)) := by
  have hS : (fun a b : Fin N => cmp (x ((ix2 i k : (⟨2, ![A, N]⟩ : Shape).Idx).along 1 a), y ((ix2 i k : (⟨2, ![A, N]⟩ : Shape).Idx).along 1 a))
      (x ((ix2 i k : (⟨2, ![A, N]⟩ : Shape).Idx).along 1 b), y ((ix2 i k : (⟨2, ![A, N]⟩ : Shape).Idx).along 1 b)) == 1#1) = R :=
    funext fun a => funext fun b => (congrArg₂ (fun u v : (⟨2, ![A, N]⟩ : Shape).Idx => (cmp (x u, y u) (x v, y v) == 1#1)) (along_1 i k a) (along_1 i k b)).trans (hR a b)
  unfold Host.sort2
  rw [dif_pos (show 1 < (⟨2, ![A, N]⟩ : Shape).rank from Nat.one_lt_two)]
  exact ⟨(congrArg (fun S : Fin N → Fin N → Bool => x ((ix2 i k : (⟨2, ![A, N]⟩ : Shape).Idx).along 1 (sortedFrom S k))) hS).trans (congrArg x (along_1 _ _ _)),
    (congrArg (fun S : Fin N → Fin N → Bool => y ((ix2 i k : (⟨2, ![A, N]⟩ : Shape).Idx).along 1 (sortedFrom S k))) hS).trans (congrArg y (along_1 _ _ _))⟩

/-- A stable selection along the rows, read at a position. -/
theorem topK_at {A N K : ℕ} {α : Type} (gt : α → α → BitVec 1) (x : (⟨2, ![A, N]⟩ : Shape).Idx → α)
    (h : (⟨2, ![A, N]⟩ : Shape).Slices (fun _ => 0) ⟨2, ![A, K]⟩) (i : Fin A) (j : Fin K) (hj : j.val < N) (R : Fin N → Fin N → Bool)
    (hR : ∀ k k', (gt (x (ix2 i k)) (x (ix2 i k')) == 1#1) = R k k') :
    (Host.topK ⟨2, ![A, K]⟩ 1 gt x h).1 (ix2 i j) = x (ix2 i (sortedFrom R ⟨j.val, hj⟩))
      ∧ (Host.topK ⟨2, ![A, K]⟩ 1 gt x h).2 (ix2 i j) = BitVec.ofNat 32 (sortedFrom R ⟨j.val, hj⟩).val := by
  have hk : ∀ z : (⟨2, ![A, N]⟩ : Shape).Idx, (∀ a, (z a).val = 0 + ((ix2 i j : (⟨2, ![A, K]⟩ : Shape).Idx) (a.cast h.1.symm)).val) →
      z = ix2 i ⟨j.val, hj⟩ := fun z hz => by
    funext a
    match a with
    | ⟨0, _⟩ => exact Fin.ext ((hz 0).trans (Nat.zero_add _))
    | ⟨1, _⟩ => exact Fin.ext ((hz 1).trans (Nat.zero_add _))
  obtain ⟨e1, e2⟩ := sort2_at (fun l r : α × BitVec 32 => gt l.1 r.1) x
    (fun i => if hd : 1 < (⟨2, ![A, N]⟩ : Shape).rank then iotaInDim (⟨2, ![A, N]⟩ : Shape) 32 ⟨1, hd⟩ i else 0#32) i ⟨j.val, hj⟩ R hR
  exact ⟨(congrArg (Host.sort2 ⟨2, ![A, N]⟩ 1 _ x _).1 (hk _ (fun a => rfl))).trans e1,
    (congrArg (Host.sort2 ⟨2, ![A, N]⟩ 1 _ x _).2 (hk _ (fun a => rfl))).trans e2⟩

/-- Position `j` of a row's selection is the column with exactly `j` columns before it, its score and its word. -/
theorem rTop_at (s : FVec Ideal S1024x100000 .f32) (f : ℕ → EReal) (i : Fin 1024) (hs : ∀ n : Fin 100000, s (ix2 i n) = f n.val) (j : Fin 8) :
    ∃ c, IsTop f (Finset.range 100000) j.val c ∧ (rTop s).1 (ix2 i j) = f c ∧ (rTop s).2 (ix2 i j) = BitVec.ofNat 32 c := by
  have hj : j.val < 100000 := lt_trans j.isLt (by norm_num)
  obtain ⟨e1, e2⟩ := topK_at (A := 1024) (N := 100000) (K := 8) (FloatOps.cmpfTotal (F := Ideal) (φ := .f32) .gt) s sliceFits_S1024x100000_S1024x8 i j hj
    (fun a b => decide (f b < f a)) (fun a b => by
      rw [hs, hs, Ideal.cmpfTotal_def]
      show (BitVec.ofBool (decide (f b < f a)) == 1#1) = _
      by_cases h : f b.val < f a.val <;> simp [h])
  exact ⟨_, sortedFrom_isTop f _ (fun _ _ => rfl) ⟨j.val, hj⟩, e1.trans (hs _), e2⟩

/-- A column's read position is the column. -/
theorem rPos_at (ti : IVec S1024x8 32) (i : Fin 1024) (j : Fin 8) {c : ℕ} (hc : c < 100000) (h : ti (ix2 i j) = BitVec.ofNat 32 c) :
    rPos ti (ix3 i j 0) = BitVec.ofNat 32 c := by
  unfold rPos
  pointwise
  rw [h]
  have hlt : IntOp.cmpi .slt (BitVec.ofNat 32 c) 0#32 = 0#1 := by
    show BitVec.ofBool ((BitVec.ofNat 32 c).slt 0#32) = _
    rw [BitVec.slt, toInt_ofNat (lt_trans hc (by norm_num))]
    rw [decide_eq_false (by rw [BitVec.toInt_zero]; exact not_lt.mpr (Int.natCast_nonneg c))]
    rfl
  rw [hlt]
  rfl

/-- The time weight read at a selected column. -/
theorem tw_at (x : FVec F S100000 .f32) (ti : IVec S1024x8 32) (i : Fin 1024) (j : Fin 8) {c : ℕ} (hc : c < 100000) (h : ti (ix2 i j) = BitVec.ofNat 32 c) :
    Host.gather gather_S100000_S1024x8x1_S1024x8_n_0_n_n_0_2_1 x (rPos ti) (ix2 i j) = x (ix1 ⟨c, hc⟩) := by
  refine (ValueIdx.gather_take_apply (N := 100000) (R := 1024) (C := 8) (by norm_num) gather_S100000_S1024x8x1_S1024x8_n_0_n_n_0_2_1_wf x (rPos ti) (ix2 i j)).trans ?_
  have e : ValueIdx.takeIdx (ix2 i j) = (ix3 i j 0 : S1024x8x1.Idx) := by
    funext a
    match a with
    | ⟨0, _⟩ => rfl
    | ⟨1, _⟩ => rfl
    | ⟨2, _⟩ => rfl
  congr 2
  apply Fin.ext
  show min (rPos ti (ValueIdx.takeIdx (ix2 i j))).toInt.toNat (100000 - 1) = c
  rw [e, rPos_at ti i j hc h, toInt_ofNat (lt_trans hc (by norm_num))]
  omega

end Cert.ReferenceIdeal.Value

end
-- ==== Proof.IHost.lean ====
module

public import proofs.«01_k».proof.Proof.IValue
public import proofs.«01_k».proof.Proof.IPrep
public import proofs.«01_k».proof.Proof.RValue

@[expose] public section

set_option maxRecDepth 16384

noncomputable section

/-!
The kernel's host operations between the launches, read in the reference's closed forms.
-/

namespace Cert.KernelIdeal.Two

open Cert.KernelIdeal.Gen Cert.Select
open Idealize.ShloMosaic Idealize.ShloMosaic.TcCoe
open Cert.ReferenceIdeal.Value (rTab rTw rCtx rPos rIx)

variable (V : Valuation τ sig (Elt Ideal))

/-- The biases as rows. -/
theorem host0_v0 : (StableHlo.after hostOps0 V main_v0 : FVec Ideal S1x128 .f32) = shapeCast S1x128 (V main_arg15 : FVec Ideal S128 .f32) shapeCasts_S128_S1x128 := by
  simp only [hostOps0]
  after_results_simp <;> rfl

theorem host0_v1 : (StableHlo.after hostOps0 V main_v1 : FVec Ideal S1x128 .f32) = shapeCast S1x128 (V main_arg17 : FVec Ideal S128 .f32) shapeCasts_S128_S1x128 := by
  simp only [hostOps0]
  after_results_simp <;> rfl

/-- The content table after the writes. -/
theorem host1_v9 : (StableHlo.after hostOps1 V main_v9 : FVec Ideal S100000x128 .f32) =
    rTab (F := Ideal) (V main_arg6 : FVec Ideal S100000x128 .f32) (V main_arg5 : IVec S1024 32) (V main_arg0 : FVec Ideal S1024x128 .f32) := by
  simp only [hostOps1]
  after_results_simp <;> rfl

/-- The context table after the writes. -/
theorem host1_v16 : (StableHlo.after hostOps1 V main_v16 : FVec Ideal S100000x128 .f32) =
    rTab (F := Ideal) (V main_arg7 : FVec Ideal S100000x128 .f32) (V main_arg5 : IVec S1024 32) (V main_v2_0 : FVec Ideal S1024x128 .f32) := by
  simp only [hostOps1]
  after_results_simp <;> rfl

/-- The time weights after the writes, cut into tiles. -/
theorem host1_v25 : (StableHlo.after hostOps1 V main_v25 : FVec Ideal S50x1x2000 .f32) =
    shapeCast S50x1x2000 (rTw (F := Ideal) (V main_arg9 : FVec Ideal S100000 .f32) (V main_arg5 : IVec S1024 32)) shapeCasts_S100000_S50x1x2000 := by
  simp only [hostOps1]
  after_results_simp <;> rfl

/-- The rows the column words select. -/
theorem host2_v33 : (StableHlo.after hostOps2 V main_v33 : FVec Ideal S1024x8x128 .f32) =
    Host.gather gather_S100000x128_S1024x8x1_S1024x8x128_2_0_n_n_0_2_1128 (V main_v9 : FVec Ideal S100000x128 .f32) (rPos (V main_v26_1 : IVec S1024x8 32)) := by
  simp only [hostOps2]
  after_results_simp <;> rfl

end Cert.KernelIdeal.Two

end
-- ==== Proof.Join.lean ====
module

public import proofs.«01_k».proof.Proof.IHost

@[expose] public section

set_option maxRecDepth 16384

noncomputable section

/-!
The kernel's results in the reference's closed forms.
-/

namespace Cert.KernelIdeal.Two

open Cert.KernelIdeal.Gen Cert.Select
open Idealize.ShloMosaic Idealize.ShloMosaic.TcCoe
open Cert.ReferenceIdeal.Value (rTab rTw rCtx rPos rIx rTop rScores rTop_at rScores_at tw_at)

/-- The context encoding, its biases read as rows, is the reference's. -/
theorem enc_eq (x2 : FVec Ideal S1024x128 .f32) (x14 : FVec Ideal S128x128 .f32) (x15 : FVec Ideal S128 .f32) (x16 : FVec Ideal S128x128 .f32)
    (x17 : FVec Ideal S128 .f32) :
    k0_pay2 x2 x14 (shapeCast S1x128 x15 shapeCasts_S128_S1x128) x16 (shapeCast S1x128 x17 shapeCasts_S128_S1x128) = rCtx x2 x14 x15 x16 x17 := by
  funext y
  have e : y = ix2 (y 0) (y 1) := by
    funext a
    match a with
    | ⟨0, _⟩ => rfl
    | ⟨1, _⟩ => rfl
  rw [e]
  generalize y 0 = i
  generalize y 1 = d
  unfold k0_pay2 rCtx
  pointwise

/-- A scatter that replaces keeps what holds of every entry of its operand and of its updates. -/
theorem scatter_all {s si u : Shape} {w : ℕ} {α : Type} (P : α → Prop) (d : ScatterDims s si u) (x : s.Idx → α) (idx : IVec si w) (upd : u.Idx → α)
    (hx : ∀ y, P (x y)) (hu : ∀ y, P (upd y)) : ∀ y, P (Host.scatter d (fun _ b => b) x idx upd y) := by
  unfold Host.scatter
  induction List.finRange u.numel generalizing x with
  | nil => exact hx
  | cons n l ih =>
    refine ih _ fun y => ?_
    dsimp only
    generalize d.resultIdx? (u.rowMajor.symm n) idx = o
    match o with
    | none => exact hx y
    | some i =>
      show P (if y = i then upd (u.rowMajor.symm n) else x y)
      by_cases hy : y = i
      · rw [if_pos hy]; exact hu _
      · rw [if_neg hy]; exact hx _

/-- The time weights after the writes stay above −∞. -/
theorem rTw_above (x : FVec Ideal S100000 .f32) (x5 : IVec S1024 32) (hx : ∀ n : Fin 100000, (⊥ : EReal) < x (ix1 n)) (y : S100000.Idx) :
    (⊥ : EReal) < rTw (F := Ideal) x x5 y := by
  refine scatter_all (α := EReal) (fun e => ⊥ < e) _ _ _ _ (fun y => ?_) (fun y => ?_) y
  · have e : y = ix1 (y 0) := by
      funext a
      match a with
      | ⟨0, _⟩ => rfl
    rw [e]
    exact hx _
  · show (⊥ : EReal) < Ideal.ofBits .f32 0x3F800000#32
    simp only [Ideal.ofBits, Ideal.ieee]
    simp
    rw [← EReal.coe_mul]
    exact EReal.bot_lt_coe _

/-- The tiles of the time weights, read at a column. -/
theorem tiles_tw (x : FVec Ideal S100000 .f32) (n : ℕ) (h : n < 100000) :
    shapeCast S50x1x2000 x shapeCasts_S100000_S50x1x2000 (ix3 ⟨n / 2000, by omega⟩ 0 ⟨n % 2000, by omega⟩) = x (ix1 ⟨n, h⟩) := by
  pointwise
  congr 2
  exact Fin.ext (by show n / 2000 * 2000 + n % 2000 = n; omega)

variable (m : (ℓ : Loc nD τ sig) → Buf (Elt Ideal) ℓ) (ρ : Dev nD → PrngReg) (c : Dev nD)

/-- The kernel's argument arrays. -/
abbrev arg (r : Ref sig .tc) : Buf (Elt Ideal) ((c : Thread nD τ).loc r) := m ((c : Thread nD τ).loc r)

/-- The content table after the writes. -/
def kMc : FVec Ideal S100000x128 .f32 := rTab (F := Ideal) (arg m c main_arg6) (arg m c main_arg5) (arg m c main_arg0)
/-- The context table after the writes. -/
def kMx : FVec Ideal S100000x128 .f32 := rTab (F := Ideal) (arg m c main_arg7) (arg m c main_arg5)
  (rCtx (F := Ideal) (arg m c main_arg2) (arg m c main_arg14) (arg m c main_arg15) (arg m c main_arg16) (arg m c main_arg17))
/-- The time weights after the writes. -/
def kMf : FVec Ideal S100000 .f32 := rTw (F := Ideal) (arg m c main_arg9) (arg m c main_arg5)
/-- The selection. -/
def kTop : FVec Ideal S1024x8 .f32 × IVec S1024x8 32 :=
  rTop (F := Ideal) (rScores (F := Ideal) (arg m c main_arg3) (arg m c main_arg4) (kMc m c) (kMx m c) (kMf m c))

/-- The context encoding the first launch returns. -/
theorem W2_enc : (W2 m ρ c main_v2_0 : FVec Ideal S1024x128 .f32) =
    rCtx (F := Ideal) (arg m c main_arg2) (arg m c main_arg14) (arg m c main_arg15) (arg m c main_arg16) (arg m c main_arg17) := by
  refine (W2_arr m ρ c 7).trans ((parr_7 (V1 m ρ) c).trans ?_)
  rw [← enc_eq]
  unfold encV
  have h0 := (host0_v0 (W0 m ρ c))
  have h1 := (host0_v1 (W0 m ρ c))
  have a2 := W1_args m ρ c main_arg2 (by decide)
  have a14 := W1_args m ρ c main_arg14 (by decide)
  have a16 := W1_args m ρ c main_arg16 (by decide)
  exact congr (congr (congr (congr (congrArg k0_pay2 a2) a14) h0) a16) h1

/-- The first normalised queries the second launch finds. -/
theorem V3_q1 (i : Fin 1024) (d : Fin 128) : (V3 m ρ c main_v2_1 : FVec Ideal S1024x128 .f32) (ix2 i d) =
    unitRow (fun e => (arg m c main_arg3 : FVec Ideal S1024x128 .f32) (ix2 i e)) d := by
  have h : (V3 m ρ c main_v2_1 : FVec Ideal S1024x128 .f32) = k0_pay3 (F := Ideal) (arg m c main_arg3 : FVec Ideal S1024x128 .f32) :=
    (W3_of m ρ c main_v2_1 (by decide)).trans ((W2_arr m ρ c 8).trans ((parr_8 (V1 m ρ) c).trans
      (congrArg (k0_pay3 (F := Ideal)) (W1_args m ρ c main_arg3 (by decide)))))
  rw [h, pay3_at]

/-- The second normalised queries the second launch finds. -/
theorem V3_q2 (i : Fin 1024) (d : Fin 128) : (V3 m ρ c main_v2_2 : FVec Ideal S1024x128 .f32) (ix2 i d) =
    unitRow (fun e => (arg m c main_arg4 : FVec Ideal S1024x128 .f32) (ix2 i e)) d := by
  have h : (V3 m ρ c main_v2_2 : FVec Ideal S1024x128 .f32) =
      k0_pay1 (F := Ideal) (arg m c main_arg4 : FVec Ideal S1024x128 .f32) (k0_pay4 (F := Ideal) (arg m c main_arg4 : FVec Ideal S1024x128 .f32)) :=
    (W3_of m ρ c main_v2_2 (by decide)).trans ((W2_arr m ρ c 9).trans ((parr_9 (V1 m ρ) c).trans
      (congrArg (fun x => k0_pay1 (F := Ideal) x (k0_pay4 (F := Ideal) x)) (W1_args m ρ c main_arg4 (by decide)))))
  rw [h, pay1_at]

/-- The content table the second launch finds. -/
theorem V3_mc : (V3 m ρ c main_v9 : FVec Ideal S100000x128 .f32) = kMc m c :=
  (host1_v9 (W2 m ρ c)).trans (congr (congr (congrArg (rTab (F := Ideal)) (W2_args m ρ c main_arg6 (by decide))) (W2_args m ρ c main_arg5 (by decide)))
    (W2_args m ρ c main_arg0 (by decide)))

/-- The context table the second launch finds. -/
theorem V3_mx : (V3 m ρ c main_v16 : FVec Ideal S100000x128 .f32) = kMx m c :=
  (host1_v16 (W2 m ρ c)).trans (congr (congr (congrArg (rTab (F := Ideal)) (W2_args m ρ c main_arg7 (by decide))) (W2_args m ρ c main_arg5 (by decide)))
    (W2_enc m ρ c))

/-- The tiles of the time weights the second launch finds. -/
theorem V3_mf : (V3 m ρ c main_v25 : FVec Ideal S50x1x2000 .f32) = shapeCast S50x1x2000 (kMf m c) shapeCasts_S100000_S50x1x2000 :=
  (host1_v25 (W2 m ρ c)).trans (congrArg (fun x => shapeCast S50x1x2000 x shapeCasts_S100000_S50x1x2000)
    (congr (congrArg (rTw (F := Ideal)) (W2_args m ρ c main_arg9 (by decide))) (W2_args m ρ c main_arg5 (by decide))))

/-- A column's time weight. -/
theorem colTw_eq (n : Fin 100000) : colTw (V3 m ρ) c n.val = kMf m c (ix1 n) := by
  unfold colTw
  rw [dif_pos n.isLt, V3_mf]
  exact tiles_tw _ _ n.isLt

/-- A column's score is the reference's. -/
theorem colScore_eq (i : Fin 1024) (n : Fin 100000) : rScores (F := Ideal) (arg m c main_arg3) (arg m c main_arg4) (kMc m c) (kMx m c) (kMf m c) (ix2 i n) =
    colScore (V3 m ρ) c i n.val := by
  rw [rScores_at]
  unfold colScore
  rw [dif_pos n.isLt, colTw_eq, V3_mc, V3_mx]
  congr 1
  · funext d; exact (V3_q1 m ρ c i d).symm
  · funext d; exact (V3_q2 m ρ c i d).symm

/-- Every column's score is above −∞ when every time weight is. -/
theorem colScore_above (h : ∀ n : Fin 100000, (⊥ : EReal) < (arg m c main_arg9 : FVec Ideal S100000 .f32) (ix1 n)) (i : Fin 1024) (a : ℕ) (ha : a < 100000) :
    ⊥ < colScore (V3 m ρ) c i a := by
  rw [← colScore_eq m ρ c i ⟨a, ha⟩, rScores_at]
  exact score_bot _ _ (fun d => unitRow_fin _ d) (fun d => unitRow_fin _ d) (rTw_above _ _ h _)

/-- The eight entries of a row the second launch leaves are the reference's selection. -/
theorem tiles_top (h : ∀ n : Fin 100000, (⊥ : EReal) < (arg m c main_arg9 : FVec Ideal S100000 .f32) (ix1 n)) (i : Fin 1024) (j : Fin 8) :
    ∃ a, ∃ ha : a < 100000, (tiles (V3 m ρ) c cfg1.N (le_refl _)).1 (ix2 i j) = (kTop m c).1 (ix2 i j)
      ∧ (tiles (V3 m ρ) c cfg1.N (le_refl _)).2.1 (ix2 i j) = (kTop m c).2 (ix2 i j)
      ∧ (kTop m c).2 (ix2 i j) = BitVec.ofNat 32 a
      ∧ (tiles (V3 m ρ) c cfg1.N (le_refl _)).2.2 (ix2 i j) = kMf m c (ix1 ⟨a, ha⟩) := by
  have e : 2000 * cfg1.N = 100000 := by rw [show cfg1.N = 50 from N_1]
  obtain ⟨a, ht, h1, h2⟩ := rTop_at _ (colScore (V3 m ρ) c i) i (colScore_eq m ρ c i) j
  rcases tiles_kept (V3 m ρ) c i (colScore_above m ρ c h i) cfg1.N (le_refl _) with ⟨h0, -⟩ | ⟨p, hp⟩
  · omega
  · obtain ⟨k1, k2, k3, k4⟩ := hp j.val j.isLt
    rw [e] at k1
    have ea : p j.val = a := k1.unique ht
    have ha : a < 100000 := Finset.mem_range.mp ht.1
    unfold row8 at k2 k3 k4
    rw [dif_pos j.isLt, ea] at k2 k3 k4
    exact ⟨a, ha, k2.trans h1.symm, k3.trans h2.symm, h2, k4.trans (colTw_eq m ρ c ⟨a, ha⟩)⟩

/-- An index of rank two is its two coordinates. -/
theorem eta2 {A B : ℕ} (y : (⟨2, ![A, B]⟩ : Shape).Idx) : ∃ i j, y = ix2 i j := ⟨y 0, y 1, funext fun a => match a with
  | ⟨0, _⟩ => rfl
  | ⟨1, _⟩ => rfl⟩

/-- The scores the kernel returns. -/
theorem W5_sim (h : ∀ n : Fin 100000, (⊥ : EReal) < (arg m c main_arg9 : FVec Ideal S100000 .f32) (ix1 n)) :
    (W5 m ρ c main_v26_0 : FVec Ideal S1024x8 .f32) = (kTop m c).1 := by
  refine (W5_of m ρ c main_v26_0 (by decide)).trans ((W4_arr m ρ c 5).trans ((arr_5 (V3 m ρ) c).trans ?_))
  funext y
  obtain ⟨i, j, rfl⟩ := eta2 y
  obtain ⟨a, ha, h1, -⟩ := tiles_top m ρ c h i j
  exact h1

/-- The column words the second launch returns. -/
theorem W4_words (h : ∀ n : Fin 100000, (⊥ : EReal) < (arg m c main_arg9 : FVec Ideal S100000 .f32) (ix1 n)) :
    (W4 m ρ c main_v26_1 : IVec S1024x8 32) = (kTop m c).2 := by
  refine (W4_arr m ρ c 6).trans ((arr_6 (V3 m ρ) c).trans ?_)
  funext y
  obtain ⟨i, j, rfl⟩ := eta2 y
  obtain ⟨a, ha, -, h2, -⟩ := tiles_top m ρ c h i j
  exact h2

/-- The time weights the kernel returns. -/
theorem W5_tw (h : ∀ n : Fin 100000, (⊥ : EReal) < (arg m c main_arg9 : FVec Ideal S100000 .f32) (ix1 n)) :
    (W5 m ρ c main_v26_2 : FVec Ideal S1024x8 .f32) =
      Host.gather ReferenceIdeal.gather_S100000_S1024x8x1_S1024x8_n_0_n_n_0_2_1 (kMf m c) (rPos (kTop m c).2) := by
  refine (W5_of m ρ c main_v26_2 (by decide)).trans ((W4_arr m ρ c 7).trans ((arr_7 (V3 m ρ) c).trans ?_))
  funext y
  obtain ⟨i, j, rfl⟩ := eta2 y
  obtain ⟨a, ha, -, -, h3, h4⟩ := tiles_top m ρ c h i j
  exact h4.trans (tw_at (F := Ideal) (kMf m c) (kTop m c).2 i j ha h3).symm

/-- The rows the kernel returns. -/
theorem W5_rows (h : ∀ n : Fin 100000, (⊥ : EReal) < (arg m c main_arg9 : FVec Ideal S100000 .f32) (ix1 n)) :
    (W5 m ρ c main_v33 : FVec Ideal S1024x8x128 .f32) =
      Host.gather ReferenceIdeal.gather_S100000x128_S1024x8x1_S1024x8x128_2_0_n_n_0_2_1128 (kMc m c) (rPos (kTop m c).2) := by
  refine (host2_v33 (W4 m ρ c)).trans ?_
  have h9 : (W4 m ρ c main_v9 : FVec Ideal S100000x128 .f32) = kMc m c := (W4_of m ρ c main_v9 (by decide)).trans (V3_mc m ρ c)
  rw [h9, W4_words m ρ c h]
  rfl

end Cert.KernelIdeal.Two

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KLaunch
public import proofs.«01_k».proof.Proof.ILaunch
public import proofs.«01_k».proof.Proof.Join
public import Idealize.ShloMosaic.Adequacy
public import Idealize.ShloMosaic.Init

@[expose] public section

noncomputable section

namespace Cert.Proof

open Idealize.ShloMosaic Idealize.SL.Sem

open Idealize.ShloMosaic.TcCoe
open Cert.KernelIdeal.Two (kMc kMx kMf kTop W5 W5_rows W5_sim W5_tw)
open Cert.ReferenceIdeal.Value (mMc mMx mMf mTop res_rows res_sim res_tw)

/-- The precondition's shape relation. -/
theorem pre_facts : Cert.Pre_tw_above_neg_inf.Facts := ⟨by decide⟩

/-- The reference's frame: its run, read at the arguments; it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Under the precondition every time weight is above −∞. -/
theorem tw_above (m : (ℓ : Loc Cert.KernelIdeal.nD Cert.KernelIdeal.τ Cert.KernelIdeal.sig) → Buf (Elt Ideal) ℓ)
    (hpre : Cert.Pre_KernelIdeal_tw_above_neg_inf (hPre_tw_above_neg_inf := pre_facts) m) (c : Dev Cert.KernelIdeal.nD) (n : Fin 100000) :
    (⊥ : EReal) < (m ((c : Thread Cert.KernelIdeal.nD Cert.KernelIdeal.τ).loc Cert.KernelIdeal.main_arg9) : FVec Ideal Cert.KernelIdeal.S100000 .f32) (ix1 n) := by
  have h : Ideal.cmp .ogt
      ((m ((c : Thread Cert.KernelIdeal.nD Cert.KernelIdeal.τ).loc Cert.KernelIdeal.main_arg9) : FVec Ideal Cert.KernelIdeal.S100000 .f32) (ix1 n))
      (Ideal.ofBits .f32 0xFF800000#32) = 1#1 := congrFun (hpre c) (ix1 n)
  rw [Cert.KernelIdeal.Two.negInf_eq, Ideal.cmp_ogt] at h
  by_contra hn
  rw [decide_eq_false hn] at h
  exact absurd h (by decide)

/-- At ideal floats the kernel's results are the reference's. -/
theorem algebraic : Cert.algebraic_KernelIdeal_ReferenceIdeal_pre_tw_above_neg_inf (hKernelIdeal := Cert.KernelIdeal.Gen.facts)
    (hReferenceIdeal := Cert.ReferenceIdeal.Gen.facts) (hPre_tw_above_neg_inf := pre_facts) := by
  intro m ρ m' ρ' hpre hagree
  have eMc : ∀ c, mMc m' c = kMc m c := fun c => by
    obtain ⟨h0, h1, h2, h3, h4, h5, h6, -⟩ := hagree c
    unfold mMc kMc
    rw [h0, h5, h6]
  have eMx : ∀ c, mMx m' c = kMx m c := fun c => by
    obtain ⟨h0, h1, h2, h3, h4, h5, h6, h7, h8, h9, h10, h11, h12, h13, h14, h15, h16, h17, -⟩ := hagree c
    unfold mMx kMx
    rw [h2, h5, h7, h14, h15, h16, h17]
  have eMf : ∀ c, mMf m' c = kMf m c := fun c => by
    obtain ⟨h0, h1, h2, h3, h4, h5, h6, h7, h8, h9, -⟩ := hagree c
    unfold mMf kMf
    rw [h5, h9]
  have eTop : ∀ c, mTop m' c = kTop m c := fun c => by
    obtain ⟨h0, h1, h2, h3, h4, -⟩ := hagree c
    unfold mTop kTop
    rw [eMc, eMx, eMf, h3, h4]
  refine ⟨fun c => W5 m ρ c Cert.KernelIdeal.main_v33, fun c => W5 m ρ c Cert.KernelIdeal.main_v26_0, fun c => W5 m ρ c Cert.KernelIdeal.main_v26_2, ?_, ?_⟩
  · refine (θ_run Cert.KernelIdeal.defs _ _).mono (fun r h c => ?_) (Cert.KernelIdeal.Two.run (F := Ideal) m ρ)
    exact ⟨h.1 c _ (Cert.KernelIdeal.Two.mem_uc Cert.KernelIdeal.main_v33 (by decide)), h.1 c _ (Cert.KernelIdeal.Two.mem_uc Cert.KernelIdeal.main_v26_0 (by decide)),
      h.1 c _ (Cert.KernelIdeal.Two.mem_uc Cert.KernelIdeal.main_v26_2 (by decide)), Cert.KernelIdeal.Two.args_kept m ρ r.2.mem h.1 c⟩
  · refine (θ_run Cert.ReferenceIdeal.defs _ _).mono (fun r h c => ?_) (Cert.ReferenceIdeal.Value.run (F := Ideal) m' ρ')
    obtain ⟨h0, h1, h2, h3⟩ := h c
    have hw := tw_above m hpre c
    refine ⟨h0.trans ?_, h1.trans ?_, h2.trans ?_, h3⟩
    · rw [res_rows, eMc, eTop]; exact (W5_rows m ρ c hw).symm
    · rw [res_sim, eTop]; exact (W5_sim m ρ c hw).symm
    · rw [res_tw, eMf, eTop]; exact (W5_tw m ρ c hw).symm

/-- Everything the certificate claims. -/
theorem claim : Cert.Claim := ⟨Cert.Kernel.Gen.facts, Cert.KernelIdeal.Gen.facts, Cert.ReferenceIdeal.Gen.facts, pre_facts,
  fun m ρ _ => Cert.Kernel.Two.frame m ρ, fun m ρ _ => Cert.KernelIdeal.Two.frame m ρ, fun m ρ _ => Cert.KernelIdeal.Two.frame m ρ,
  frame_ri, fun m ρ _ => frame_ri m ρ trivial, trivial, algebraic⟩

end Cert.Proof

end
